-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.bf16_pack.Statement Cert.KernelIdeal.S1024x256
  ∧ IdealRules.named_const.Statement Cert.KernelIdeal.κ "loss_scale" .f32 0x33555555#32 ((5 / 100663296 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v19)) (v2 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_v21) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_v100) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8192x1024 : Shape := ⟨2, ![8192, 1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S8192x1024 .f32) (main_arg1 : FVec F S1024x1024 .f32) (main_arg2 : FVec F S1024x1024 .f32) (main_arg3 : FVec F S1024x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S8192x1024 : Shape := ⟨2, ![8192, 1024]⟩
abbrev S1024x1024 : Shape := ⟨2, ![1024, 1024]⟩
abbrev S_ : Shape := ⟨0, ![]⟩
abbrev S1024 : Shape := ⟨1, ![1024]⟩
abbrev S1x1024 : Shape := ⟨2, ![1, 1024]⟩
abbrev S3x1024 : Shape := ⟨2, ![3, 1024]⟩
abbrev S5x1024 : Shape := ⟨2, ![5, 1024]⟩
abbrev S8x1024 : Shape := ⟨2, ![8, 1024]⟩
abbrev S8192 : Shape := ⟨1, ![8192]⟩
abbrev S8192x1 : Shape := ⟨2, ![8192, 1]⟩
abbrev S8192x128 : Shape := ⟨2, ![8192, 128]⟩
abbrev S8x8192 : Shape := ⟨2, ![8, 8192]⟩
abbrev S32x1x128 : Shape := ⟨3, ![32, 1, 128]⟩
abbrev S256x1024 : Shape := ⟨2, ![256, 1024]⟩
abbrev S256x128 : Shape := ⟨2, ![256, 128]⟩
abbrev S8x256 : Shape := ⟨2, ![8, 256]⟩
abbrev S1x1x128 : Shape := ⟨3, ![1, 1, 128]⟩
abbrev S256 : Shape := ⟨1, ![256]⟩
abbrev S256x1 : Shape := ⟨2, ![256, 1]⟩
abbrev S256x256 : Shape := ⟨2, ![256, 256]⟩
abbrev S1x256 : Shape := ⟨2, ![1, 256]⟩
abbrev S1024x256 : Shape := ⟨2, ![1024, 256]⟩
abbrev S1 : Shape := ⟨1, ![1]⟩
abbrev S1x1 : Shape := ⟨2, ![1, 1]⟩
abbrev S32x1x1 : Shape := ⟨3, ![32, 1, 1]⟩
abbrev S32 : Shape := ⟨1, ![32]⟩
abbrev S3x8192 : Shape := ⟨2, ![3, 8192]⟩
abbrev S8192x3 : Shape := ⟨2, ![8192, 3]⟩

abbrev nBuf : Space → Nat
  | .hbm => 34
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S_, .f32⟩
  | .hbm, ⟨6, _⟩ => ⟨S1024, .f32⟩
  | .hbm, ⟨7, _⟩ => ⟨S1024x1024, .f32⟩
  | .hbm, ⟨8, _⟩ => ⟨S_, .f32⟩
  | .hbm, ⟨9, _⟩ => ⟨S1024, .f32⟩
  | .hbm, ⟨10, _⟩ => ⟨S1024x1024, .f32⟩
  | .hbm, ⟨11, _⟩ => ⟨S_, .f32⟩
  | .hbm, ⟨12, _⟩ => ⟨S1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S3x1024, .f32⟩
  | .hbm, ⟨17, _⟩ => ⟨S_, .f32⟩
  | .hbm, ⟨18, _⟩ => ⟨S5x1024, .f32⟩
  | .hbm, ⟨19, _⟩ => ⟨S8x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S8192x128, .f32⟩
  | .hbm, ⟨25, _⟩ => ⟨S8192x1024, .f32⟩
  | .hbm, ⟨26, _⟩ => ⟨S8x8192, .i32⟩
  | .hbm, ⟨27, _⟩ => ⟨S32x1x128, .f32⟩
  | .hbm, ⟨28, _⟩ => ⟨S32x1x1, .f32⟩
  | .hbm, ⟨29, _⟩ => ⟨S32, .f32⟩
  | .hbm, ⟨30, _⟩ => ⟨S_, .f32⟩
  | .hbm, ⟨31, _⟩ => ⟨S_, .f32⟩
  | .hbm, ⟨32, _⟩ => ⟨S3x8192, .i32⟩
  | .hbm, ⟨33, _⟩ => ⟨S8192x3, .i32⟩
  | .local _ .vmem, ⟨0, _⟩ => ⟨S256x1024, .f32⟩
  | .local _ .vmem, ⟨1, _⟩ => ⟨S256x1024, .f32⟩
  | .local _ .vmem, ⟨2, _⟩ => ⟨S256x128, .f32⟩
  | .local _ .vmem, ⟨3, _⟩ => ⟨S256x128, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S8x1024, .f32⟩
  | .local _ .vmem, ⟨8, _⟩ => ⟨S256x1024, .f32⟩
  | .local _ .vmem, ⟨9, _⟩ => ⟨S256x1024, .f32⟩
  | .local _ .vmem, ⟨10, _⟩ => ⟨S8x256, .i32⟩
  | .local _ .vmem, ⟨11, _⟩ => ⟨S8x256, .i32⟩
  | .local _ .vmem, ⟨12, _⟩ => ⟨S1x1x128, .f32⟩
  | .local _ .vmem, ⟨13, _⟩ => ⟨S1x1x128, .f32⟩
  | .local _ .vmem, ⟨14, _⟩ => ⟨S256x1024, .f32⟩
  | .local _ .vmem, ⟨15, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [BitOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x256 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "loss_scale" => some ((5 / 100663296 : ℝ) : EReal)
  | _ => none
-- ==== ReferenceIdeal.lean ====
abbrev S8192x1024 : Shape := ⟨2, ![8192, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x1024 : Shape := ⟨2, ![1, 1024]⟩
abbrev S1 : Shape := ⟨1, ![1]⟩
abbrev S1x1 : Shape := ⟨2, ![1, 1]⟩
abbrev S3 : Shape := ⟨1, ![3]⟩
abbrev S8192x3 : Shape := ⟨2, ![8192, 3]⟩

abbrev nBuf : Space → Nat
  | .hbm => 210
  | .vmem => 0
  | .smem => 0
  | _ => 0

abbrev hbmTy0_0 (i : Nat) : BufTy := match i % 128 with
  | 0 => ⟨S8192x1024, .f32⟩
  | 1 => ⟨S1024x1024, .f32⟩
  | 2 => ⟨S1024x1024, .f32⟩
  | 3 => ⟨S1024x1024, .f32⟩
  | 4 => ⟨S_, .f32⟩
  | 5 => ⟨S8192x1024, .f32⟩
  | 6 => ⟨S8192x1024, .f32⟩
  | 7 => ⟨S_, .f32⟩
  | 8 => ⟨S8192, .f32⟩
  | 9 => ⟨S8192x1, .f32⟩
  | 10 => ⟨S_, .f32⟩
  | 11 => ⟨S8192x1024, .f32⟩
  | 12 => ⟨S8192x1024, .f32⟩
  | 13 => ⟨S1024x1024, .f32⟩
  | 14 => ⟨S8192x1024, .f32⟩
  | 15 => ⟨S8192x1024, .f32⟩
  | 16 => ⟨S8192x1024, .f32⟩
  | 17 => ⟨S1024x1024, .f32⟩
  | 18 => ⟨S_, .f32⟩
  | 19 => ⟨S1024, .f32⟩
  | 20 => ⟨S1x1024, .f32⟩
  | 21 => ⟨S8192x1024, .f32⟩
  | 22 => ⟨S8192x1024, .f32⟩
  | 23 => ⟨S8192x1024, .i32⟩
  | 24 => ⟨S_, .f32⟩
  | 25 => ⟨S_, .i32⟩
  | 26 => ⟨S8192, .f32⟩
  | 27 => ⟨S8192, .i32⟩
  | 28 => ⟨S_, .i32⟩
  | 29 => ⟨S8192, .i32⟩
  | 30 => ⟨S8192, .i1⟩
  | 31 => ⟨S_, .i32⟩
  | 32 => ⟨S8192, .i32⟩
  | 33 => ⟨S8192, .i32⟩
  | 34 => ⟨S8192, .i32⟩
  | 35 => ⟨S8192x1, .i32⟩
  | 36 => ⟨S1, .i32⟩
  | 37 => ⟨S_, .i32⟩
  | 38 => ⟨S8192x1, .i32⟩
  | 39 => ⟨S8192x1, .i1⟩
  | 40 => ⟨S1x1, .i32⟩
  | 41 => ⟨S8192x1, .i32⟩
  | 42 => ⟨S8192x1, .i1⟩
  | 43 => ⟨S8192x1, .i1⟩
  | 44 => ⟨S_, .i1⟩
  | 45 => ⟨S8192, .i1⟩
  | 46 => ⟨S8192x1024, .f32⟩
  | 47 => ⟨S8192x1024, .i1⟩
  | 48 => ⟨S_, .f32⟩
  | 49 => ⟨S8192x1024, .f32⟩
  | 50 => ⟨S8192x1024, .f32⟩
  | 51 => ⟨S8192x1024, .f32⟩
  | 52 => ⟨S8192x1024, .f32⟩
  | 53 => ⟨S_, .f32⟩
  | 54 => ⟨S_, .f32⟩
  | 55 => ⟨S_, .f32⟩
  | 56 => ⟨S_, .f32⟩
  | 57 => ⟨S8192x1024, .f32⟩
  | 58 => ⟨S8192x1024, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S8192x1024, .f32⟩
  | 67 => ⟨S8192x1024, .f32⟩
  | 68 => ⟨S8192x1024, .f32⟩
  | 69 => ⟨S8192x1024, .f32⟩
  | 70 => ⟨S8192x1024, .f32⟩
  | 71 => ⟨S_, .f32⟩
  | 72 => ⟨S8192, .f32⟩
  | 73 => ⟨S8192x1, .f32⟩
  | 74 => ⟨S_, .f32⟩
  | 75 => ⟨S8192x1024, .f32⟩
  | 76 => ⟨S8192x1024, .f32⟩
  | 77 => ⟨S1024x1024, .f32⟩
  | 78 => ⟨S8192x1024, .f32⟩
  | 79 => ⟨S8192x1024, .f32⟩
  | 80 => ⟨S8192x1024, .f32⟩
  | 81 => ⟨S1024x1024, .f32⟩
  | 82 => ⟨S_, .f32⟩
  | 83 => ⟨S1024, .f32⟩
  | 84 => ⟨S1x1024, .f32⟩
  | 85 => ⟨S8192x1024, .f32⟩
  | 86 => ⟨S8192x1024, .f32⟩
  | 87 => ⟨S8192x1024, .i32⟩
  | 88 => ⟨S_, .f32⟩
  | 89 => ⟨S_, .i32⟩
  | 90 => ⟨S8192, .f32⟩
  | 91 => ⟨S8192, .i32⟩
  | 92 => ⟨S_, .i32⟩
  | 93 => ⟨S8192, .i32⟩
  | 94 => ⟨S8192, .i1⟩
  | 95 => ⟨S_, .i32⟩
  | 96 => ⟨S8192, .i32⟩
  | 97 => ⟨S8192, .i32⟩
  | 98 => ⟨S8192, .i32⟩
  | 99 => ⟨S8192x1, .i32⟩
  | 100 => ⟨S1, .i32⟩
  | 101 => ⟨S_, .i32⟩
  | 102 => ⟨S8192x1, .i32⟩
  | 103 => ⟨S8192x1, .i1⟩
  | 104 => ⟨S1x1, .i32⟩
  | 105 => ⟨S8192x1, .i32⟩
  | 106 => ⟨S8192x1, .i1⟩
  | 107 => ⟨S8192x1, .i1⟩
  | 108 => ⟨S_, .i1⟩
  | 109 => ⟨S8192, .i1⟩
  | 110 => ⟨S8192x1024, .f32⟩
  | 111 => ⟨S8192x1024, .i1⟩
  | 112 => ⟨S_, .f32⟩
  | 113 => ⟨S8192x1024, .f32⟩
  | 114 => ⟨S8192x1024, .f32⟩
  | 115 => ⟨S8192x1024, .f32⟩
  | 116 => ⟨S8192x1024, .f32⟩
  | 117 => ⟨S_, .f32⟩
  | 118 => ⟨S_, .f32⟩
  | 119 => ⟨S_, .f32⟩
  | 120 => ⟨S_, .f32⟩
  | 121 => ⟨S8192x1024, .f32⟩
  | 122 => ⟨S8192x1024, .f32⟩
  | 123 => ⟨S_, .f32⟩
  | 124 => ⟨S_, .f32⟩
  | 125 => ⟨S_, .f32⟩
  | 126 => ⟨S_, .f32⟩
  | 127 => ⟨S_, .f32⟩
  | _ => ⟨S8192x1024, .f32⟩

abbrev hbmTy0_1 (i : Nat) : BufTy := match i % 128 with
  | 0 => ⟨S_, .f32⟩
  | 1 => ⟨S_, .f32⟩
  | 2 => ⟨S8192x1024, .f32⟩
  | 3 => ⟨S8192x1024, .f32⟩
  | 4 => ⟨S8192x1024, .f32⟩
  | 5 => ⟨S8192x1024, .f32⟩
  | 6 => ⟨S8192x1024, .f32⟩
  | 7 => ⟨S_, .f32⟩
  | 8 => ⟨S8192, .f32⟩
  | 9 => ⟨S8192x1, .f32⟩
  | 10 => ⟨S_, .f32⟩
  | 11 => ⟨S8192x1024, .f32⟩
  | 12 => ⟨S8192x1024, .f32⟩
  | 13 => ⟨S1024x1024, .f32⟩
  | 14 => ⟨S8192x1024, .f32⟩
  | 15 => ⟨S8192x1024, .f32⟩
  | 16 => ⟨S8192x1024, .f32⟩
  | 17 => ⟨S1024x1024, .f32⟩
  | 18 => ⟨S_, .f32⟩
  | 19 => ⟨S1024, .f32⟩
  | 20 => ⟨S1x1024, .f32⟩
  | 21 => ⟨S8192x1024, .f32⟩
  | 22 => ⟨S8192x1024, .f32⟩
  | 23 => ⟨S8192x1024, .i32⟩
  | 24 => ⟨S_, .f32⟩
  | 25 => ⟨S_, .i32⟩
  | 26 => ⟨S8192, .f32⟩
  | 27 => ⟨S8192, .i32⟩
  | 28 => ⟨S_, .i32⟩
  | 29 => ⟨S8192, .i32⟩
  | 30 => ⟨S8192, .i1⟩
  | 31 => ⟨S_, .i32⟩
  | 32 => ⟨S8192, .i32⟩
  | 33 => ⟨S8192, .i32⟩
  | 34 => ⟨S8192, .i32⟩
  | 35 => ⟨S8192x1, .i32⟩
  | 36 => ⟨S1, .i32⟩
  | 37 => ⟨S_, .i32⟩
  | 38 => ⟨S8192x1, .i32⟩
  | 39 => ⟨S8192x1, .i1⟩
  | 40 => ⟨S1x1, .i32⟩
  | 41 => ⟨S8192x1, .i32⟩
  | 42 => ⟨S8192x1, .i1⟩
  | 43 => ⟨S8192x1, .i1⟩
  | 44 => ⟨S_, .i1⟩
  | 45 => ⟨S8192, .i1⟩
  | 46 => ⟨S8192x1024, .f32⟩
  | 47 => ⟨S8192x1024, .i1⟩
  | 48 => ⟨S_, .f32⟩
  | 49 => ⟨S8192x1024, .f32⟩
  | 50 => ⟨S8192x1024, .f32⟩
  | 51 => ⟨S8192x1024, .f32⟩
  | 52 => ⟨S8192x1024, .f32⟩
  | 53 => ⟨S_, .f32⟩
  | 54 => ⟨S_, .f32⟩
  | 55 => ⟨S_, .f32⟩
  | 56 => ⟨S_, .f32⟩
  | 57 => ⟨S8192x1024, .f32⟩
  | 58 => ⟨S8192x1024, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S8192x1024, .f32⟩
  | 67 => ⟨S8192x1024, .f32⟩
  | 68 => ⟨S8192x1024, .f32⟩
  | 69 => ⟨S8192x1024, .f32⟩
  | 70 => ⟨S1, .f32⟩
  | 71 => ⟨S1, .f32⟩
  | 72 => ⟨S1, .f32⟩
  | 73 => ⟨S3, .f32⟩
  | 74 => ⟨S_, .f32⟩
  | 75 => ⟨S_, .f32⟩
  | 76 => ⟨S_, .f32⟩
  | 77 => ⟨S_, .f32⟩
  | 78 => ⟨S8192x1, .i32⟩
  | 79 => ⟨S8192x1, .i32⟩
  | 80 => ⟨S8192x1, .i32⟩
  | 81 => ⟨S8192x3, .i32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_cst : Ref sig .tc := ⟨.hbm, 24, rfl⟩
abbrev main_call0_c : Ref sig .tc := ⟨.hbm, 25, rfl⟩
abbrev main_call0_v1_0 : Ref sig .tc := ⟨.hbm, 26, rfl⟩
abbrev main_v15 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_v14 : Ref sig .tc := ⟨.hbm, 47, rfl⟩
abbrev main_call1_cst : Ref sig .tc := ⟨.hbm, 48, rfl⟩
abbrev main_call1_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_cst_3 : Ref sig .tc := ⟨.hbm, 53, rfl⟩
abbrev main_v19 : Ref sig .tc := ⟨.hbm, 54, rfl⟩
abbrev main_cst_4 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_cst_5 : Ref sig .tc := ⟨.hbm, 59, rfl⟩
abbrev main_v23 : Ref sig .tc := ⟨.hbm, 60, rfl⟩
abbrev main_cst_6 : Ref sig .tc := ⟨.hbm, 61, rfl⟩
abbrev main_v24 : Ref sig .tc := ⟨.hbm, 62, rfl⟩
abbrev main_cst_7 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_cst_8 : Ref sig .tc := ⟨.hbm, 71, rfl⟩
abbrev main_v32 : Ref sig .tc := ⟨.hbm, 72, rfl⟩
abbrev main_v33 : Ref sig .tc := ⟨.hbm, 73, rfl⟩
abbrev main_cst_9 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_cst_10 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_call2_v0 : Ref sig .tc := ⟨.hbm, 87, rfl⟩
abbrev main_call2_cst : Ref sig .tc := ⟨.hbm, 88, rfl⟩
abbrev main_call2_c : Ref sig .tc := ⟨.hbm, 89, rfl⟩
abbrev main_call2_v1_0 : Ref sig .tc := ⟨.hbm, 90, rfl⟩
abbrev main_v45 : Ref sig .tc := ⟨.hbm, 91, rfl⟩
abbrev main_call3_c : Ref sig .tc := ⟨.hbm, 92, rfl⟩
abbrev main_call3_v0 : Ref sig .tc := ⟨.hbm, 93, rfl⟩
abbrev main_call3_v1 : Ref sig .tc := ⟨.hbm, 94, rfl⟩
abbrev main_call3_c_0 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_call3_v5 : Ref sig .tc := ⟨.hbm, 99, rfl⟩
abbrev main_call3_c_1 : Ref sig .tc := ⟨.hbm, 100, rfl⟩
abbrev main_call3_c_2 : Ref sig .tc := ⟨.hbm, 101, rfl⟩
abbrev main_call3_v6 : Ref sig .tc := ⟨.hbm, 102, rfl⟩
abbrev main_call3_v7 : Ref sig .tc := ⟨.hbm, 103, rfl⟩
abbrev main_call3_v8 : Ref sig .tc := ⟨.hbm, 104, rfl⟩
abbrev main_call3_v9 : Ref sig .tc := ⟨.hbm, 105, rfl⟩
abbrev main_call3_v10 : Ref sig .tc := ⟨.hbm, 106, rfl⟩
abbrev main_call3_v11 : Ref sig .tc := ⟨.hbm, 107, rfl⟩
abbrev main_call3_c_3 : Ref sig .tc := ⟨.hbm, 108, rfl⟩
abbrev main_call3_v12 : Ref sig .tc := ⟨.hbm, 109, rfl⟩
abbrev main_call3_v13 : Ref sig .tc := ⟨.hbm, 110, rfl⟩
abbrev main_call3_v14 : Ref sig .tc := ⟨.hbm, 111, rfl⟩
abbrev main_call3_cst : Ref sig .tc := ⟨.hbm, 112, rfl⟩
abbrev main_call3_v15 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_cst_11 : Ref sig .tc := ⟨.hbm, 117, rfl⟩
abbrev main_v49 : Ref sig .tc := ⟨.hbm, 118, rfl⟩
abbrev main_cst_12 : Ref sig .tc := ⟨.hbm, 119, rfl⟩
abbrev main_v50 : Ref sig .tc := ⟨.hbm, 120, rfl⟩
abbrev main_v51 : Ref sig .tc := ⟨.hbm, 121, rfl⟩
abbrev main_v52 : Ref sig .tc := ⟨.hbm, 122, rfl⟩
abbrev main_cst_13 : Ref sig .tc := ⟨.hbm, 123, rfl⟩
abbrev main_v53 : Ref sig .tc := ⟨.hbm, 124, rfl⟩
abbrev main_cst_14 : Ref sig .tc := ⟨.hbm, 125, rfl⟩
abbrev main_v54 : Ref sig .tc := ⟨.hbm, 126, rfl⟩
abbrev main_cst_15 : Ref sig .tc := ⟨.hbm, 127, rfl⟩
abbrev main_v55 : Ref sig .tc := ⟨.hbm, 128, rfl⟩
abbrev main_v56 : Ref sig .tc := ⟨.hbm, 129, rfl⟩
abbrev main_v57 : Ref sig .tc := ⟨.hbm, 130, rfl⟩
abbrev main_v58 : Ref sig .tc := ⟨.hbm, 131, rfl⟩
abbrev main_v59 : Ref sig .tc := ⟨.hbm, 132, rfl⟩
abbrev main_v60 : Ref sig .tc := ⟨.hbm, 133, rfl⟩
abbrev main_v61 : Ref sig .tc := ⟨.hbm, 134, rfl⟩
abbrev main_cst_16 : Ref sig .tc := ⟨.hbm, 135, rfl⟩
abbrev main_v62 : Ref sig .tc := ⟨.hbm, 136, rfl⟩
abbrev main_v63 : Ref sig .tc := ⟨.hbm, 137, rfl⟩
abbrev main_cst_17 : Ref sig .tc := ⟨.hbm, 138, rfl⟩
abbrev main_v64 : Ref sig .tc := ⟨.hbm, 139, rfl⟩
abbrev main_v65 : Ref sig .tc := ⟨.hbm, 140, rfl⟩
abbrev main_v66 : Ref sig .tc := ⟨.hbm, 141, rfl⟩
abbrev main_v67 : Ref sig .tc := ⟨.hbm, 142, rfl⟩
abbrev main_v68 : Ref sig .tc := ⟨.hbm, 143, rfl⟩
abbrev main_v69 : Ref sig .tc := ⟨.hbm, 144, rfl⟩
abbrev main_v70 : Ref sig .tc := ⟨.hbm, 145, rfl⟩
abbrev main_cst_18 : Ref sig .tc := ⟨.hbm, 146, rfl⟩
abbrev main_v71 : Ref sig .tc := ⟨.hbm, 147, rfl⟩
abbrev main_v72 : Ref sig .tc := ⟨.hbm, 148, rfl⟩
abbrev main_v73 : Ref sig .tc := ⟨.hbm, 149, rfl⟩
abbrev main_v74 : Ref sig .tc := ⟨.hbm, 150, rfl⟩
abbrev main_call4_v0 : Ref sig .tc := ⟨.hbm, 151, rfl⟩
abbrev main_call4_cst : Ref sig .tc := ⟨.hbm, 152, rfl⟩
abbrev main_call4_c : Ref sig .tc := ⟨.hbm, 153, rfl⟩
abbrev main_call4_v1_0 : Ref sig .tc := ⟨.hbm, 154, rfl⟩
abbrev main_v75 : Ref sig .tc := ⟨.hbm, 155, rfl⟩
abbrev main_call5_c : Ref sig .tc := ⟨.hbm, 156, rfl⟩
abbrev main_call5_v0 : Ref sig .tc := ⟨.hbm, 157, rfl⟩
abbrev main_call5_v1 : Ref sig .tc := ⟨.hbm, 158, rfl⟩
abbrev main_call5_c_0 : Ref sig .tc := ⟨.hbm, 159, rfl⟩
abbrev main_call5_v2 : Ref sig .tc := ⟨.hbm, 160, rfl⟩
abbrev main_call5_v3 : Ref sig .tc := ⟨.hbm, 161, rfl⟩
abbrev main_call5_v4 : Ref sig .tc := ⟨.hbm, 162, rfl⟩
abbrev main_call5_v5 : Ref sig .tc := ⟨.hbm, 163, rfl⟩
abbrev main_call5_c_1 : Ref sig .tc := ⟨.hbm, 164, rfl⟩
abbrev main_call5_c_2 : Ref sig .tc := ⟨.hbm, 165, rfl⟩
abbrev main_call5_v6 : Ref sig .tc := ⟨.hbm, 166, rfl⟩
abbrev main_call5_v7 : Ref sig .tc := ⟨.hbm, 167, rfl⟩
abbrev main_call5_v8 : Ref sig .tc := ⟨.hbm, 168, rfl⟩
abbrev main_call5_v9 : Ref sig .tc := ⟨.hbm, 169, rfl⟩
abbrev main_call5_v10 : Ref sig .tc := ⟨.hbm, 170, rfl⟩
abbrev main_call5_v11 : Ref sig .tc := ⟨.hbm, 171, rfl⟩
abbrev main_call5_c_3 : Ref sig .tc := ⟨.hbm, 172, rfl⟩
abbrev main_call5_v12 : Ref sig .tc := ⟨.hbm, 173, rfl⟩
abbrev main_call5_v13 : Ref sig .tc := ⟨.hbm, 174, rfl⟩
abbrev main_call5_v14 : Ref sig .tc := ⟨.hbm, 175, rfl⟩
abbrev main_call5_cst : Ref sig .tc := ⟨.hbm, 176, rfl⟩
abbrev main_call5_v15 : Ref sig .tc := ⟨.hbm, 177, rfl⟩
abbrev main_v76 : Ref sig .tc := ⟨.hbm, 178, rfl⟩
abbrev main_v77 : Ref sig .tc := ⟨.hbm, 179, rfl⟩
abbrev main_v78 : Ref sig .tc := ⟨.hbm, 180, rfl⟩
abbrev main_cst_19 : Ref sig .tc := ⟨.hbm, 181, rfl⟩
abbrev main_v79 : Ref sig .tc := ⟨.hbm, 182, rfl⟩
abbrev main_cst_20 : Ref sig .tc := ⟨.hbm, 183, rfl⟩
abbrev main_v80 : Ref sig .tc := ⟨.hbm, 184, rfl⟩
abbrev main_v81 : Ref sig .tc := ⟨.hbm, 185, rfl⟩
abbrev main_v82 : Ref sig .tc := ⟨.hbm, 186, rfl⟩
abbrev main_cst_21 : Ref sig .tc := ⟨.hbm, 187, rfl⟩
abbrev main_v83 : Ref sig .tc := ⟨.hbm, 188, rfl⟩
abbrev main_cst_22 : Ref sig .tc := ⟨.hbm, 189, rfl⟩
abbrev main_v84 : Ref sig .tc := ⟨.hbm, 190, rfl⟩
abbrev main_cst_23 : Ref sig .tc := ⟨.hbm, 191, rfl⟩
abbrev main_v85 : Ref sig .tc := ⟨.hbm, 192, rfl⟩
abbrev main_v86 : Ref sig .tc := ⟨.hbm, 193, rfl⟩
abbrev main_v87 : Ref sig .tc := ⟨.hbm, 194, rfl⟩
abbrev main_v88 : Ref sig .tc := ⟨.hbm, 195, rfl⟩
abbrev main_v89 : Ref sig .tc := ⟨.hbm, 196, rfl⟩
abbrev main_v90 : Ref sig .tc := ⟨.hbm, 197, rfl⟩
abbrev main_v91 : Ref sig .tc := ⟨.hbm, 198, rfl⟩
abbrev main_v92 : Ref sig .tc := ⟨.hbm, 199, rfl⟩
abbrev main_v93 : Ref sig .tc := ⟨.hbm, 200, rfl⟩
abbrev main_v94 : Ref sig .tc := ⟨.hbm, 201, rfl⟩
abbrev main_cst_24 : Ref sig .tc := ⟨.hbm, 202, rfl⟩
abbrev main_v95 : Ref sig .tc := ⟨.hbm, 203, rfl⟩
abbrev main_cst_25 : Ref sig .tc := ⟨.hbm, 204, rfl⟩
abbrev main_v96 : Ref sig .tc := ⟨.hbm, 205, rfl⟩
abbrev main_v97 : Ref sig .tc := ⟨.hbm, 206, rfl⟩
abbrev main_v98 : Ref sig .tc := ⟨.hbm, 207, rfl⟩
abbrev main_v99 : Ref sig .tc := ⟨.hbm, 208, rfl⟩
abbrev main_v100 : Ref sig .tc := ⟨.hbm, 209, rfl⟩

abbrev nD : Nat := 1
abbrev τ : Topo := Topo.v7x

variable {F : FTy → Type} [FloatOps F]
-- ==== Proof.RefOps.lean ====
/- The reference's run: its operations as lists, and what each result holds after them. -/
module
public import proofs.«01_k».proof.Proof.Gen.ReferenceIdeal
public import Idealize.ShloMosaic.Lib.StableHlo.Run
public import Idealize.ShloMosaic.Lib.Pipeline.Frame
@[expose] public section
noncomputable section
namespace Cert.RefRun
open Cert.ReferenceIdeal Cert.ReferenceIdeal.Gen Idealize.ShloMosaic Idealize.ShloMosaic.TcCoe Idealize.SL.Sem Idealize.ShloMosaic.StableHlo

/- The types of the arrays that occur often. -/
variable {F : FTy → Type} [FloatOps F]

abbrev TX (F : FTy → Type) := BufTy.Contents (Elt F) (⟨S8192x1024, .f32⟩ : BufTy)
abbrev TC (F : FTy → Type) := BufTy.Contents (Elt F) (⟨S1024x1024, .f32⟩ : BufTy)
abbrev TI (F : FTy → Type) := BufTy.Contents (Elt F) (⟨S8192, .i32⟩ : BufTy)
abbrev TS (F : FTy → Type) := BufTy.Contents (Elt F) (⟨S_, .f32⟩ : BufTy)
abbrev TV (F : FTy → Type) := BufTy.Contents (Elt F) (⟨S8192, .f32⟩ : BufTy)
abbrev TV1 (F : FTy → Type) := BufTy.Contents (Elt F) (⟨S8192x1, .f32⟩ : BufTy)
abbrev TW (F : FTy → Type) := BufTy.Contents (Elt F) (⟨S1024, .f32⟩ : BufTy)
abbrev TW1 (F : FTy → Type) := BufTy.Contents (Elt F) (⟨S1x1024, .f32⟩ : BufTy)

/-- The zero scalar. -/
def zeroS : TS F := constant S_ .f32 0x00000000#32
/-- The zero array the sum of the levels starts at. -/
def zeroX : TX F := broadcastInDim S8192x1024 ![] bcast_S_S8192x1024 (constant S_ .f32 0x00000000#32)
/-- A level's squared distances, expanded: the residual's norm, less twice the products, plus the codes' norms. -/
def dist (r : TX F) (cb : TC F) : TX F :=
  addf (subf (broadcastInDim S8192x1024 ![0, 1] bcast_S8192x1_S8192x1024_0_1 (broadcastInDim S8192x1 ![0] bcast_S8192_S8192x1_0
      (Host.reduceAdd (mulf r r) (constant S_ .f32 0x00000000#32) reducesTo_S8192x1024_S8192_d1 h_S_)))
    (Host.dotGeneral dot_S8192x1024_S1024x1024_S8192x1024_1_0_0_1_n_n none
      (mulf (broadcastInDim S8192x1024 ![] bcast_S_S8192x1024 (constant S_ .f32 0x40000000#32)) r)
      (transpose S1024x1024 [1, 0] cb transposes_S1024x1024_S1024x1024_1_0)))
  (broadcastInDim S8192x1024 ![0, 1] bcast_S1x1024_S8192x1024_0_1 (broadcastInDim S1x1024 ![1] bcast_S1024_S1x1024_1
    (Host.reduceAdd (mulf cb cb) (constant S_ .f32 0x00000000#32) reducesTo_S1024x1024_S1024_d1 h_S_)))
/-- The position of each row's least distance. -/
def amin (d : TX F) : TI F := fun j =>
  (Host.argReduce reducer_argmin_f32_i32 d (iotaInDim S8192x1024 32 1) (constant S_ .f32 0x7F800000#32) (constantI S_ 32 0#32)
    reducesTo_S8192x1024_S8192_d1 h_S_ j).2
/-- The positions as a column, a negative one counted from the end. -/
def col (i : TI F) : BufTy.Contents (Elt F) (⟨S8192x1, .i32⟩ : BufTy) :=
  broadcastInDim S8192x1 ![0] bcast_S8192_S8192x1_0
    (select (cmpi .slt i (broadcastInDim S8192 ![] bcast_S_S8192 (constantI S_ 32 0#32)))
      (addi i (broadcastInDim S8192 ![] bcast_S_S8192 (constantI S_ 32 1024#32))) i)
/-- Which positions are inside the codebook. -/
def inside (i : TI F) : BufTy.Contents (Elt F) (⟨S8192, .i1⟩ : BufTy) :=
  Host.reduce IntOp.andi
    (andi (cmpi .sge (col (F := F) i) (broadcastInDim S8192x1 ![] bcast_S_S8192x1 (constantI S_ 32 0#32)))
      (cmpi .sle (col (F := F) i) (broadcastInDim S8192x1 ![0, 1] bcast_S1x1_S8192x1_0_1 (broadcastInDim S1x1 ![1] bcast_S1_S1x1_1 (constantI S1 32 1023#32)))))
    (constantI S_ 1 1#1) reducesTo_S8192x1_S8192_d1 h_S_
/-- The codebook's rows at the given positions. -/
def rows (cb : TC F) (i : TI F) : TX F :=
  select (broadcastInDim S8192x1024 ![0] bcast_S8192_S8192x1024_0 (inside (F := F) i))
    (Host.gather gather_S1024x1024_S8192x1_S8192x1024_1_0_n_n_0_1_11024 cb (col (F := F) i))
    (broadcastInDim S8192x1024 ![] bcast_S_S8192x1024 (constant S_ .f32 0x7FC00000#32))
/-- The mean of the squared differences. -/
def msq (xq r : TX F) : TS F :=
  Host.divf (Host.reduceAdd (mulf (subf xq r) (subf xq r)) (constant S_ .f32 0x00000000#32) reducesTo_S8192x1024_S_d0_1 h_S_)
    (constant S_ .f32 0x4B000000#32)
/-- A level's loss. -/
def loss (xq r : TX F) : TS F := addf (msq xq r) (mulf (constant S_ .f32 0x3E800000#32) (msq xq r))
/-- A level's contribution: the residual plus the difference to its code. -/
def step (xq r : TX F) : TX F := addf r (subf xq r)
/-- Three one-element arrays end to end. -/
def lossCat (a b c : BufTy.Contents (Elt F) (⟨S1, .f32⟩ : BufTy)) : BufTy.Contents (Elt F) (⟨S3, .f32⟩ : BufTy) :=
  concatenate S3 0 [⟨S1, a⟩, ⟨S1, b⟩, ⟨S1, c⟩] concatenates_S1_S1_S1_S3_d0
/-- Three columns side by side. -/
def idxCat (a b c : BufTy.Contents (Elt F) (⟨S8192x1, .i32⟩ : BufTy)) : BufTy.Contents (Elt F) (⟨S8192x3, .i32⟩ : BufTy) :=
  concatenate S8192x3 1 [⟨S8192x1, a⟩, ⟨S8192x1, b⟩, ⟨S8192x1, c⟩] concatenates_S8192x1_S8192x1_S8192x1_S8192x3_d1
/-- The mean of the three losses. -/
def lossOf (a b c : TS F) : TS F :=
  Host.divf (Host.reduceAdd (lossCat (broadcastInDim S1 ![] bcast_S_S1 a) (broadcastInDim S1 ![] bcast_S_S1 b) (broadcastInDim S1 ![] bcast_S_S1 c))
    (constant S_ .f32 0x00000000#32) reducesTo_S3_S_d0 h_S_) (constant S_ .f32 0x40400000#32)
/-- The three levels' positions as columns. -/
def idxOf (a b c : TI F) : BufTy.Contents (Elt F) (⟨S8192x3, .i32⟩ : BufTy) :=
  idxCat (F := F) (broadcastInDim S8192x1 ![0] bcast_S8192_S8192x1_0 a) (broadcastInDim S8192x1 ![0] bcast_S8192_S8192x1_0 b)
    (broadcastInDim S8192x1 ![0] bcast_S8192_S8192x1_0 c)

/-- The zero array, the first distances and their positions. -/
abbrev opsA0 : List (HloOp τ sig (Elt F)) :=
  [ nullary main_cst (constant S_ .f32 0x00000000#32),
    unary main_cst main_v0 (broadcastInDim S8192x1024 ![] bcast_S_S8192x1024 : TS F → TX F),
    binary main_arg0 main_arg0 main_v1 (mulf : TX F → TX F → TX F),
    nullary main_cst_0 (constant S_ .f32 0x00000000#32),
    binary main_v1 main_cst_0 main_v2 ((fun x v => Host.reduceAdd x v reducesTo_S8192x1024_S8192_d1 h_S_) : TX F → TS F → TV F),
    unary main_v2 main_v3 (broadcastInDim S8192x1 ![0] bcast_S8192_S8192x1_0 : TV F → TV1 F),
    nullary main_cst_1 (constant S_ .f32 0x40000000#32),
    unary main_cst_1 main_v4 (broadcastInDim S8192x1024 ![] bcast_S_S8192x1024 : TS F → TX F),
    binary main_v4 main_arg0 main_v5 (mulf : TX F → TX F → TX F),
    unary main_arg1 main_v6 ((transpose S1024x1024 [1, 0] · transposes_S1024x1024_S1024x1024_1_0) : TC F → TC F),
    binary main_v5 main_v6 main_v7 ((fun l r => Host.dotGeneral dot_S8192x1024_S1024x1024_S8192x1024_1_0_0_1_n_n none l r) : TX F → TC F → TX F),
    unary main_v3 main_v8 (broadcastInDim S8192x1024 ![0, 1] bcast_S8192x1_S8192x1024_0_1 : TV1 F → TX F),
    binary main_v8 main_v7 main_v9 (subf : TX F → TX F → TX F),
    binary main_arg1 main_arg1 main_v10 (mulf : TC F → TC F → TC F),
    nullary main_cst_2 (constant S_ .f32 0x00000000#32),
    binary main_v10 main_cst_2 main_v11 ((fun x v => Host.reduceAdd x v reducesTo_S1024x1024_S1024_d1 h_S_) : TC F → TS F → TW F),
    unary main_v11 main_v12 (broadcastInDim S1x1024 ![1] bcast_S1024_S1x1024_1 : TW F → TW1 F),
    unary main_v12 main_v13 (broadcastInDim S8192x1024 ![0, 1] bcast_S1x1024_S8192x1024_0_1 : TW1 F → TX F),
    binary main_v9 main_v13 main_v14 (addf : TX F → TX F → TX F),
    TRef.nullary (TRef.of (T := ⟨S8192x1024, .i32⟩) main_call0_v0) (iotaInDim S8192x1024 32 1),
    TRef.nullary (TRef.of (T := ⟨S_, .f32⟩) main_call0_cst) (constant S_ .f32 0x7F800000#32),
    TRef.nullary (TRef.of (T := ⟨S_, .i32⟩) main_call0_c) (constantI S_ 32 0#32),
    TRef.quaternary (TRef.of (T := ⟨S8192x1024, .f32⟩) main_v14) (TRef.of (T := ⟨S8192x1024, .i32⟩) main_call0_v0) (TRef.of (T := ⟨S_, .f32⟩) main_call0_cst) (TRef.of (T := ⟨S_, .i32⟩) main_call0_c) (TRef.of (T := ⟨S8192, .f32⟩) main_call0_v1_0) (fun x y u v j => (Host.argReduce reducer_argmin_f32_i32 x y u v reducesTo_S8192x1024_S8192_d1 h_S_ j).1),
    TRef.quaternary (TRef.of (T := ⟨S8192x1024, .f32⟩) main_v14) (TRef.of (T := ⟨S8192x1024, .i32⟩) main_call0_v0) (TRef.of (T := ⟨S_, .f32⟩) main_call0_cst) (TRef.of (T := ⟨S_, .i32⟩) main_call0_c) (TRef.of (T := ⟨S8192, .i32⟩) main_v15) (fun x y u v j => (Host.argReduce reducer_argmin_f32_i32 x y u v reducesTo_S8192x1024_S8192_d1 h_S_ j).2) ]
/-- The buffers those operations write. -/
abbrev wrA0 : List (Ref sig .tc) :=
  [main_cst, main_v0, main_v1, main_cst_0, main_v2, main_v3, main_cst_1, main_v4, main_v5, main_v6, main_v7, main_v8, main_v9, main_v10, main_cst_2, main_v11, main_v12, main_v13, main_v14, main_call0_v0, main_call0_cst, main_call0_c, main_call0_v1_0, main_v15]

/-- The first level's rows. -/
abbrev opsB0 : List (HloOp τ sig (Elt F)) :=
  [ TRef.nullary (TRef.of (T := ⟨S_, .i32⟩) main_call1_c) (constantI S_ 32 0#32),
    TRef.unary (TRef.of (T := ⟨S_, .i32⟩) main_call1_c) (TRef.of (T := ⟨S8192, .i32⟩) main_call1_v0) (broadcastInDim S8192 ![] bcast_S_S8192),
    TRef.binary (TRef.of (T := ⟨S8192, .i32⟩) main_v15) (TRef.of (T := ⟨S8192, .i32⟩) main_call1_v0) (TRef.of (T := ⟨S8192, .i1⟩) main_call1_v1) (cmpi .slt),
    TRef.nullary (TRef.of (T := ⟨S_, .i32⟩) main_call1_c_0) (constantI S_ 32 1024#32),
    TRef.unary (TRef.of (T := ⟨S_, .i32⟩) main_call1_c_0) (TRef.of (T := ⟨S8192, .i32⟩) main_call1_v2) (broadcastInDim S8192 ![] bcast_S_S8192),
    TRef.binary (TRef.of (T := ⟨S8192, .i32⟩) main_v15) (TRef.of (T := ⟨S8192, .i32⟩) main_call1_v2) (TRef.of (T := ⟨S8192, .i32⟩) main_call1_v3) addi,
    TRef.ternary (TRef.of (T := ⟨S8192, .i1⟩) main_call1_v1) (TRef.of (T := ⟨S8192, .i32⟩) main_call1_v3) (TRef.of (T := ⟨S8192, .i32⟩) main_v15) (TRef.of (T := ⟨S8192, .i32⟩) main_call1_v4) select,
    TRef.unary (TRef.of (T := ⟨S8192, .i32⟩) main_call1_v4) (TRef.of (T := ⟨S8192x1, .i32⟩) main_call1_v5) (broadcastInDim S8192x1 ![0] bcast_S8192_S8192x1_0),
    TRef.nullary (TRef.of (T := ⟨S1, .i32⟩) main_call1_c_1) (constantI S1 32 1023#32),
    TRef.nullary (TRef.of (T := ⟨S_, .i32⟩) main_call1_c_2) (constantI S_ 32 0#32),
    TRef.unary (TRef.of (T := ⟨S_, .i32⟩) main_call1_c_2) (TRef.of (T := ⟨S8192x1, .i32⟩) main_call1_v6) (broadcastInDim S8192x1 ![] bcast_S_S8192x1),
    TRef.binary (TRef.of (T := ⟨S8192x1, .i32⟩) main_call1_v5) (TRef.of (T := ⟨S8192x1, .i32⟩) main_call1_v6) (TRef.of (T := ⟨S8192x1, .i1⟩) main_call1_v7) (cmpi .sge),
    TRef.unary (TRef.of (T := ⟨S1, .i32⟩) main_call1_c_1) (TRef.of (T := ⟨S1x1, .i32⟩) main_call1_v8) (broadcastInDim S1x1 ![1] bcast_S1_S1x1_1),
    TRef.unary (TRef.of (T := ⟨S1x1, .i32⟩) main_call1_v8) (TRef.of (T := ⟨S8192x1, .i32⟩) main_call1_v9) (broadcastInDim S8192x1 ![0, 1] bcast_S1x1_S8192x1_0_1),
    TRef.binary (TRef.of (T := ⟨S8192x1, .i32⟩) main_call1_v5) (TRef.of (T := ⟨S8192x1, .i32⟩) main_call1_v9) (TRef.of (T := ⟨S8192x1, .i1⟩) main_call1_v10) (cmpi .sle),
    TRef.binary (TRef.of (T := ⟨S8192x1, .i1⟩) main_call1_v7) (TRef.of (T := ⟨S8192x1, .i1⟩) main_call1_v10) (TRef.of (T := ⟨S8192x1, .i1⟩) main_call1_v11) andi,
    TRef.nullary (TRef.of (T := ⟨S_, .i1⟩) main_call1_c_3) (constantI S_ 1 1#1),
    TRef.binary (TRef.of (T := ⟨S8192x1, .i1⟩) main_call1_v11) (TRef.of (T := ⟨S_, .i1⟩) main_call1_c_3) (TRef.of (T := ⟨S8192, .i1⟩) main_call1_v12) (fun x v => Host.reduce IntOp.andi x v reducesTo_S8192x1_S8192_d1 h_S_),
    TRef.binary (TRef.of (T := ⟨S1024x1024, .f32⟩) main_arg1) (TRef.of (T := ⟨S8192x1, .i32⟩) main_call1_v5) (TRef.of (T := ⟨S8192x1024, .f32⟩) main_call1_v13) (fun x i => Host.gather gather_S1024x1024_S8192x1_S8192x1024_1_0_n_n_0_1_11024 x i),
    TRef.unary (TRef.of (T := ⟨S8192, .i1⟩) main_call1_v12) (TRef.of (T := ⟨S8192x1024, .i1⟩) main_call1_v14) (broadcastInDim S8192x1024 ![0] bcast_S8192_S8192x1024_0),
    TRef.nullary (TRef.of (T := ⟨S_, .f32⟩) main_call1_cst) (constant S_ .f32 0x7FC00000#32),
    TRef.unary (TRef.of (T := ⟨S_, .f32⟩) main_call1_cst) (TRef.of (T := ⟨S8192x1024, .f32⟩) main_call1_v15) (broadcastInDim S8192x1024 ![] bcast_S_S8192x1024),
    TRef.ternary (TRef.of (T := ⟨S8192x1024, .i1⟩) main_call1_v14) (TRef.of (T := ⟨S8192x1024, .f32⟩) main_call1_v13) (TRef.of (T := ⟨S8192x1024, .f32⟩) main_call1_v15) (TRef.of (T := ⟨S8192x1024, .f32⟩) main_v16) select ]
/-- The buffers those operations write. -/
abbrev wrB0 : List (Ref sig .tc) :=
  [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v16]

/-- The first level's loss, sum and residual. -/
abbrev opsC0 : List (HloOp τ sig (Elt F)) :=
  [ binary main_v16 main_arg0 main_v17 (subf : TX F → TX F → TX F),
    binary main_v17 main_v17 main_v18 (mulf : TX F → TX F → TX F),
    nullary main_cst_3 (constant S_ .f32 0x00000000#32),
    binary main_v18 main_cst_3 main_v19 ((fun x v => Host.reduceAdd x v reducesTo_S8192x1024_S_d0_1 h_S_) : TX F → TS F → TS F),
    nullary main_cst_4 (constant S_ .f32 0x4B000000#32),
    binary main_v19 main_cst_4 main_v20 (Host.divf : TS F → TS F → TS F),
    binary main_v16 main_arg0 main_v21 (subf : TX F → TX F → TX F),
    binary main_v21 main_v21 main_v22 (mulf : TX F → TX F → TX F),
    nullary main_cst_5 (constant S_ .f32 0x00000000#32),
    binary main_v22 main_cst_5 main_v23 ((fun x v => Host.reduceAdd x v reducesTo_S8192x1024_S_d0_1 h_S_) : TX F → TS F → TS F),
    nullary main_cst_6 (constant S_ .f32 0x4B000000#32),
    binary main_v23 main_cst_6 main_v24 (Host.divf : TS F → TS F → TS F),
    nullary main_cst_7 (constant S_ .f32 0x3E800000#32),
    binary main_cst_7 main_v24 main_v25 (mulf : TS F → TS F → TS F),
    binary main_v20 main_v25 main_v26 (addf : TS F → TS F → TS F),
    binary main_v16 main_arg0 main_v27 (subf : TX F → TX F → TX F),
    binary main_arg0 main_v27 main_v28 (addf : TX F → TX F → TX F),
    binary main_v0 main_v28 main_v29 (addf : TX F → TX F → TX F),
    binary main_arg0 main_v28 main_v30 (subf : TX F → TX F → TX F) ]
/-- The buffers those operations write. -/
abbrev wrC0 : List (Ref sig .tc) :=
  [main_v17, main_v18, main_cst_3, main_v19, main_cst_4, main_v20, main_v21, main_v22, main_cst_5, main_v23, main_cst_6, main_v24, main_cst_7, main_v25, main_v26, main_v27, main_v28, main_v29, main_v30]

/-- The second distances and their positions. -/
abbrev opsA1 : List (HloOp τ sig (Elt F)) :=
  [ binary main_v30 main_v30 main_v31 (mulf : TX F → TX F → TX F),
    nullary main_cst_8 (constant S_ .f32 0x00000000#32),
    binary main_v31 main_cst_8 main_v32 ((fun x v => Host.reduceAdd x v reducesTo_S8192x1024_S8192_d1 h_S_) : TX F → TS F → TV F),
    unary main_v32 main_v33 (broadcastInDim S8192x1 ![0] bcast_S8192_S8192x1_0 : TV F → TV1 F),
    nullary main_cst_9 (constant S_ .f32 0x40000000#32),
    unary main_cst_9 main_v34 (broadcastInDim S8192x1024 ![] bcast_S_S8192x1024 : TS F → TX F),
    binary main_v34 main_v30 main_v35 (mulf : TX F → TX F → TX F),
    unary main_arg2 main_v36 ((transpose S1024x1024 [1, 0] · transposes_S1024x1024_S1024x1024_1_0) : TC F → TC F),
    binary main_v35 main_v36 main_v37 ((fun l r => Host.dotGeneral dot_S8192x1024_S1024x1024_S8192x1024_1_0_0_1_n_n none l r) : TX F → TC F → TX F),
    unary main_v33 main_v38 (broadcastInDim S8192x1024 ![0, 1] bcast_S8192x1_S8192x1024_0_1 : TV1 F → TX F),
    binary main_v38 main_v37 main_v39 (subf : TX F → TX F → TX F),
    binary main_arg2 main_arg2 main_v40 (mulf : TC F → TC F → TC F),
    nullary main_cst_10 (constant S_ .f32 0x00000000#32),
    binary main_v40 main_cst_10 main_v41 ((fun x v => Host.reduceAdd x v reducesTo_S1024x1024_S1024_d1 h_S_) : TC F → TS F → TW F),
    unary main_v41 main_v42 (broadcastInDim S1x1024 ![1] bcast_S1024_S1x1024_1 : TW F → TW1 F),
    unary main_v42 main_v43 (broadcastInDim S8192x1024 ![0, 1] bcast_S1x1024_S8192x1024_0_1 : TW1 F → TX F),
    binary main_v39 main_v43 main_v44 (addf : TX F → TX F → TX F),
    TRef.nullary (TRef.of (T := ⟨S8192x1024, .i32⟩) main_call2_v0) (iotaInDim S8192x1024 32 1),
    TRef.nullary (TRef.of (T := ⟨S_, .f32⟩) main_call2_cst) (constant S_ .f32 0x7F800000#32),
    TRef.nullary (TRef.of (T := ⟨S_, .i32⟩) main_call2_c) (constantI S_ 32 0#32),
    TRef.quaternary (TRef.of (T := ⟨S8192x1024, .f32⟩) main_v44) (TRef.of (T := ⟨S8192x1024, .i32⟩) main_call2_v0) (TRef.of (T := ⟨S_, .f32⟩) main_call2_cst) (TRef.of (T := ⟨S_, .i32⟩) main_call2_c) (TRef.of (T := ⟨S8192, .f32⟩) main_call2_v1_0) (fun x y u v j => (Host.argReduce reducer_argmin_f32_i32 x y u v reducesTo_S8192x1024_S8192_d1 h_S_ j).1),
    TRef.quaternary (TRef.of (T := ⟨S8192x1024, .f32⟩) main_v44) (TRef.of (T := ⟨S8192x1024, .i32⟩) main_call2_v0) (TRef.of (T := ⟨S_, .f32⟩) main_call2_cst) (TRef.of (T := ⟨S_, .i32⟩) main_call2_c) (TRef.of (T := ⟨S8192, .i32⟩) main_v45) (fun x y u v j => (Host.argReduce reducer_argmin_f32_i32 x y u v reducesTo_S8192x1024_S8192_d1 h_S_ j).2) ]
/-- The buffers those operations write. -/
abbrev wrA1 : List (Ref sig .tc) :=
  [main_v31, main_cst_8, main_v32, main_v33, main_cst_9, main_v34, main_v35, main_v36, main_v37, main_v38, main_v39, main_v40, main_cst_10, main_v41, main_v42, main_v43, main_v44, main_call2_v0, main_call2_cst, main_call2_c, main_call2_v1_0, main_v45]

/-- The second level's rows. -/
abbrev opsB1 : List (HloOp τ sig (Elt F)) :=
  [ TRef.nullary (TRef.of (T := ⟨S_, .i32⟩) main_call3_c) (constantI S_ 32 0#32),
    TRef.unary (TRef.of (T := ⟨S_, .i32⟩) main_call3_c) (TRef.of (T := ⟨S8192, .i32⟩) main_call3_v0) (broadcastInDim S8192 ![] bcast_S_S8192),
    TRef.binary (TRef.of (T := ⟨S8192, .i32⟩) main_v45) (TRef.of (T := ⟨S8192, .i32⟩) main_call3_v0) (TRef.of (T := ⟨S8192, .i1⟩) main_call3_v1) (cmpi .slt),
    TRef.nullary (TRef.of (T := ⟨S_, .i32⟩) main_call3_c_0) (constantI S_ 32 1024#32),
    TRef.unary (TRef.of (T := ⟨S_, .i32⟩) main_call3_c_0) (TRef.of (T := ⟨S8192, .i32⟩) main_call3_v2) (broadcastInDim S8192 ![] bcast_S_S8192),
    TRef.binary (TRef.of (T := ⟨S8192, .i32⟩) main_v45) (TRef.of (T := ⟨S8192, .i32⟩) main_call3_v2) (TRef.of (T := ⟨S8192, .i32⟩) main_call3_v3) addi,
    TRef.ternary (TRef.of (T := ⟨S8192, .i1⟩) main_call3_v1) (TRef.of (T := ⟨S8192, .i32⟩) main_call3_v3) (TRef.of (T := ⟨S8192, .i32⟩) main_v45) (TRef.of (T := ⟨S8192, .i32⟩) main_call3_v4) select,
    TRef.unary (TRef.of (T := ⟨S8192, .i32⟩) main_call3_v4) (TRef.of (T := ⟨S8192x1, .i32⟩) main_call3_v5) (broadcastInDim S8192x1 ![0] bcast_S8192_S8192x1_0),
    TRef.nullary (TRef.of (T := ⟨S1, .i32⟩) main_call3_c_1) (constantI S1 32 1023#32),
    TRef.nullary (TRef.of (T := ⟨S_, .i32⟩) main_call3_c_2) (constantI S_ 32 0#32),
    TRef.unary (TRef.of (T := ⟨S_, .i32⟩) main_call3_c_2) (TRef.of (T := ⟨S8192x1, .i32⟩) main_call3_v6) (broadcastInDim S8192x1 ![] bcast_S_S8192x1),
    TRef.binary (TRef.of (T := ⟨S8192x1, .i32⟩) main_call3_v5) (TRef.of (T := ⟨S8192x1, .i32⟩) main_call3_v6) (TRef.of (T := ⟨S8192x1, .i1⟩) main_call3_v7) (cmpi .sge),
    TRef.unary (TRef.of (T := ⟨S1, .i32⟩) main_call3_c_1) (TRef.of (T := ⟨S1x1, .i32⟩) main_call3_v8) (broadcastInDim S1x1 ![1] bcast_S1_S1x1_1),
    TRef.unary (TRef.of (T := ⟨S1x1, .i32⟩) main_call3_v8) (TRef.of (T := ⟨S8192x1, .i32⟩) main_call3_v9) (broadcastInDim S8192x1 ![0, 1] bcast_S1x1_S8192x1_0_1),
    TRef.binary (TRef.of (T := ⟨S8192x1, .i32⟩) main_call3_v5) (TRef.of (T := ⟨S8192x1, .i32⟩) main_call3_v9) (TRef.of (T := ⟨S8192x1, .i1⟩) main_call3_v10) (cmpi .sle),
    TRef.binary (TRef.of (T := ⟨S8192x1, .i1⟩) main_call3_v7) (TRef.of (T := ⟨S8192x1, .i1⟩) main_call3_v10) (TRef.of (T := ⟨S8192x1, .i1⟩) main_call3_v11) andi,
    TRef.nullary (TRef.of (T := ⟨S_, .i1⟩) main_call3_c_3) (constantI S_ 1 1#1),
    TRef.binary (TRef.of (T := ⟨S8192x1, .i1⟩) main_call3_v11) (TRef.of (T := ⟨S_, .i1⟩) main_call3_c_3) (TRef.of (T := ⟨S8192, .i1⟩) main_call3_v12) (fun x v => Host.reduce IntOp.andi x v reducesTo_S8192x1_S8192_d1 h_S_),
    TRef.binary (TRef.of (T := ⟨S1024x1024, .f32⟩) main_arg2) (TRef.of (T := ⟨S8192x1, .i32⟩) main_call3_v5) (TRef.of (T := ⟨S8192x1024, .f32⟩) main_call3_v13) (fun x i => Host.gather gather_S1024x1024_S8192x1_S8192x1024_1_0_n_n_0_1_11024 x i),
    TRef.unary (TRef.of (T := ⟨S8192, .i1⟩) main_call3_v12) (TRef.of (T := ⟨S8192x1024, .i1⟩) main_call3_v14) (broadcastInDim S8192x1024 ![0] bcast_S8192_S8192x1024_0),
    TRef.nullary (TRef.of (T := ⟨S_, .f32⟩) main_call3_cst) (constant S_ .f32 0x7FC00000#32),
    TRef.unary (TRef.of (T := ⟨S_, .f32⟩) main_call3_cst) (TRef.of (T := ⟨S8192x1024, .f32⟩) main_call3_v15) (broadcastInDim S8192x1024 ![] bcast_S_S8192x1024),
    TRef.ternary (TRef.of (T := ⟨S8192x1024, .i1⟩) main_call3_v14) (TRef.of (T := ⟨S8192x1024, .f32⟩) main_call3_v13) (TRef.of (T := ⟨S8192x1024, .f32⟩) main_call3_v15) (TRef.of (T := ⟨S8192x1024, .f32⟩) main_v46) select ]
/-- The buffers those operations write. -/
abbrev wrB1 : List (Ref sig .tc) :=
  [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v46]

/-- The second level's first difference. -/
abbrev opsC1a : List (HloOp τ sig (Elt F)) :=
  [ binary main_v46 main_v30 main_v47 (subf : TX F → TX F → TX F) ]
/-- The buffers those operations write. -/
abbrev wrC1a : List (Ref sig .tc) :=
  [main_v47]

/-- The rest of the second level's loss, sum and residual. -/
abbrev opsC1b : List (HloOp τ sig (Elt F)) :=
  [ binary main_v47 main_v47 main_v48 (mulf : TX F → TX F → TX F),
    nullary main_cst_11 (constant S_ .f32 0x00000000#32),
    binary main_v48 main_cst_11 main_v49 ((fun x v => Host.reduceAdd x v reducesTo_S8192x1024_S_d0_1 h_S_) : TX F → TS F → TS F),
    nullary main_cst_12 (constant S_ .f32 0x4B000000#32),
    binary main_v49 main_cst_12 main_v50 (Host.divf : TS F → TS F → TS F),
    binary main_v46 main_v30 main_v51 (subf : TX F → TX F → TX F),
    binary main_v51 main_v51 main_v52 (mulf : TX F → TX F → TX F),
    nullary main_cst_13 (constant S_ .f32 0x00000000#32),
    binary main_v52 main_cst_13 main_v53 ((fun x v => Host.reduceAdd x v reducesTo_S8192x1024_S_d0_1 h_S_) : TX F → TS F → TS F),
    nullary main_cst_14 (constant S_ .f32 0x4B000000#32),
    binary main_v53 main_cst_14 main_v54 (Host.divf : TS F → TS F → TS F),
    nullary main_cst_15 (constant S_ .f32 0x3E800000#32),
    binary main_cst_15 main_v54 main_v55 (mulf : TS F → TS F → TS F),
    binary main_v50 main_v55 main_v56 (addf : TS F → TS F → TS F),
    binary main_v46 main_v30 main_v57 (subf : TX F → TX F → TX F),
    binary main_v30 main_v57 main_v58 (addf : TX F → TX F → TX F),
    binary main_v29 main_v58 main_v59 (addf : TX F → TX F → TX F),
    binary main_v30 main_v58 main_v60 (subf : TX F → TX F → TX F) ]
/-- The buffers those operations write. -/
abbrev wrC1b : List (Ref sig .tc) :=
  [main_v48, main_cst_11, main_v49, main_cst_12, main_v50, main_v51, main_v52, main_cst_13, main_v53, main_cst_14, main_v54, main_cst_15, main_v55, main_v56, main_v57, main_v58, main_v59, main_v60]

/-- The third distances and their positions. -/
abbrev opsA2 : List (HloOp τ sig (Elt F)) :=
  [ binary main_v60 main_v60 main_v61 (mulf : TX F → TX F → TX F),
    nullary main_cst_16 (constant S_ .f32 0x00000000#32),
    binary main_v61 main_cst_16 main_v62 ((fun x v => Host.reduceAdd x v reducesTo_S8192x1024_S8192_d1 h_S_) : TX F → TS F → TV F),
    unary main_v62 main_v63 (broadcastInDim S8192x1 ![0] bcast_S8192_S8192x1_0 : TV F → TV1 F),
    nullary main_cst_17 (constant S_ .f32 0x40000000#32),
    unary main_cst_17 main_v64 (broadcastInDim S8192x1024 ![] bcast_S_S8192x1024 : TS F → TX F),
    binary main_v64 main_v60 main_v65 (mulf : TX F → TX F → TX F),
    unary main_arg3 main_v66 ((transpose S1024x1024 [1, 0] · transposes_S1024x1024_S1024x1024_1_0) : TC F → TC F),
    binary main_v65 main_v66 main_v67 ((fun l r => Host.dotGeneral dot_S8192x1024_S1024x1024_S8192x1024_1_0_0_1_n_n none l r) : TX F → TC F → TX F),
    unary main_v63 main_v68 (broadcastInDim S8192x1024 ![0, 1] bcast_S8192x1_S8192x1024_0_1 : TV1 F → TX F),
    binary main_v68 main_v67 main_v69 (subf : TX F → TX F → TX F),
    binary main_arg3 main_arg3 main_v70 (mulf : TC F → TC F → TC F),
    nullary main_cst_18 (constant S_ .f32 0x00000000#32),
    binary main_v70 main_cst_18 main_v71 ((fun x v => Host.reduceAdd x v reducesTo_S1024x1024_S1024_d1 h_S_) : TC F → TS F → TW F),
    unary main_v71 main_v72 (broadcastInDim S1x1024 ![1] bcast_S1024_S1x1024_1 : TW F → TW1 F),
    unary main_v72 main_v73 (broadcastInDim S8192x1024 ![0, 1] bcast_S1x1024_S8192x1024_0_1 : TW1 F → TX F),
    binary main_v69 main_v73 main_v74 (addf : TX F → TX F → TX F),
    TRef.nullary (TRef.of (T := ⟨S8192x1024, .i32⟩) main_call4_v0) (iotaInDim S8192x1024 32 1),
    TRef.nullary (TRef.of (T := ⟨S_, .f32⟩) main_call4_cst) (constant S_ .f32 0x7F800000#32),
    TRef.nullary (TRef.of (T := ⟨S_, .i32⟩) main_call4_c) (constantI S_ 32 0#32),
    TRef.quaternary (TRef.of (T := ⟨S8192x1024, .f32⟩) main_v74) (TRef.of (T := ⟨S8192x1024, .i32⟩) main_call4_v0) (TRef.of (T := ⟨S_, .f32⟩) main_call4_cst) (TRef.of (T := ⟨S_, .i32⟩) main_call4_c) (TRef.of (T := ⟨S8192, .f32⟩) main_call4_v1_0) (fun x y u v j => (Host.argReduce reducer_argmin_f32_i32 x y u v reducesTo_S8192x1024_S8192_d1 h_S_ j).1),
    TRef.quaternary (TRef.of (T := ⟨S8192x1024, .f32⟩) main_v74) (TRef.of (T := ⟨S8192x1024, .i32⟩) main_call4_v0) (TRef.of (T := ⟨S_, .f32⟩) main_call4_cst) (TRef.of (T := ⟨S_, .i32⟩) main_call4_c) (TRef.of (T := ⟨S8192, .i32⟩) main_v75) (fun x y u v j => (Host.argReduce reducer_argmin_f32_i32 x y u v reducesTo_S8192x1024_S8192_d1 h_S_ j).2) ]
/-- The buffers those operations write. -/
abbrev wrA2 : List (Ref sig .tc) :=
  [main_v61, main_cst_16, main_v62, main_v63, main_cst_17, main_v64, main_v65, main_v66, main_v67, main_v68, main_v69, main_v70, main_cst_18, main_v71, main_v72, main_v73, main_v74, main_call4_v0, main_call4_cst, main_call4_c, main_call4_v1_0, main_v75]

/-- The third level's rows. -/
abbrev opsB2 : List (HloOp τ sig (Elt F)) :=
  [ TRef.nullary (TRef.of (T := ⟨S_, .i32⟩) main_call5_c) (constantI S_ 32 0#32),
    TRef.unary (TRef.of (T := ⟨S_, .i32⟩) main_call5_c) (TRef.of (T := ⟨S8192, .i32⟩) main_call5_v0) (broadcastInDim S8192 ![] bcast_S_S8192),
    TRef.binary (TRef.of (T := ⟨S8192, .i32⟩) main_v75) (TRef.of (T := ⟨S8192, .i32⟩) main_call5_v0) (TRef.of (T := ⟨S8192, .i1⟩) main_call5_v1) (cmpi .slt),
    TRef.nullary (TRef.of (T := ⟨S_, .i32⟩) main_call5_c_0) (constantI S_ 32 1024#32),
    TRef.unary (TRef.of (T := ⟨S_, .i32⟩) main_call5_c_0) (TRef.of (T := ⟨S8192, .i32⟩) main_call5_v2) (broadcastInDim S8192 ![] bcast_S_S8192),
    TRef.binary (TRef.of (T := ⟨S8192, .i32⟩) main_v75) (TRef.of (T := ⟨S8192, .i32⟩) main_call5_v2) (TRef.of (T := ⟨S8192, .i32⟩) main_call5_v3) addi,
    TRef.ternary (TRef.of (T := ⟨S8192, .i1⟩) main_call5_v1) (TRef.of (T := ⟨S8192, .i32⟩) main_call5_v3) (TRef.of (T := ⟨S8192, .i32⟩) main_v75) (TRef.of (T := ⟨S8192, .i32⟩) main_call5_v4) select,
    TRef.unary (TRef.of (T := ⟨S8192, .i32⟩) main_call5_v4) (TRef.of (T := ⟨S8192x1, .i32⟩) main_call5_v5) (broadcastInDim S8192x1 ![0] bcast_S8192_S8192x1_0),
    TRef.nullary (TRef.of (T := ⟨S1, .i32⟩) main_call5_c_1) (constantI S1 32 1023#32),
    TRef.nullary (TRef.of (T := ⟨S_, .i32⟩) main_call5_c_2) (constantI S_ 32 0#32),
    TRef.unary (TRef.of (T := ⟨S_, .i32⟩) main_call5_c_2) (TRef.of (T := ⟨S8192x1, .i32⟩) main_call5_v6) (broadcastInDim S8192x1 ![] bcast_S_S8192x1),
    TRef.binary (TRef.of (T := ⟨S8192x1, .i32⟩) main_call5_v5) (TRef.of (T := ⟨S8192x1, .i32⟩) main_call5_v6) (TRef.of (T := ⟨S8192x1, .i1⟩) main_call5_v7) (cmpi .sge),
    TRef.unary (TRef.of (T := ⟨S1, .i32⟩) main_call5_c_1) (TRef.of (T := ⟨S1x1, .i32⟩) main_call5_v8) (broadcastInDim S1x1 ![1] bcast_S1_S1x1_1),
    TRef.unary (TRef.of (T := ⟨S1x1, .i32⟩) main_call5_v8) (TRef.of (T := ⟨S8192x1, .i32⟩) main_call5_v9) (broadcastInDim S8192x1 ![0, 1] bcast_S1x1_S8192x1_0_1),
    TRef.binary (TRef.of (T := ⟨S8192x1, .i32⟩) main_call5_v5) (TRef.of (T := ⟨S8192x1, .i32⟩) main_call5_v9) (TRef.of (T := ⟨S8192x1, .i1⟩) main_call5_v10) (cmpi .sle),
    TRef.binary (TRef.of (T := ⟨S8192x1, .i1⟩) main_call5_v7) (TRef.of (T := ⟨S8192x1, .i1⟩) main_call5_v10) (TRef.of (T := ⟨S8192x1, .i1⟩) main_call5_v11) andi,
    TRef.nullary (TRef.of (T := ⟨S_, .i1⟩) main_call5_c_3) (constantI S_ 1 1#1),
    TRef.binary (TRef.of (T := ⟨S8192x1, .i1⟩) main_call5_v11) (TRef.of (T := ⟨S_, .i1⟩) main_call5_c_3) (TRef.of (T := ⟨S8192, .i1⟩) main_call5_v12) (fun x v => Host.reduce IntOp.andi x v reducesTo_S8192x1_S8192_d1 h_S_),
    TRef.binary (TRef.of (T := ⟨S1024x1024, .f32⟩) main_arg3) (TRef.of (T := ⟨S8192x1, .i32⟩) main_call5_v5) (TRef.of (T := ⟨S8192x1024, .f32⟩) main_call5_v13) (fun x i => Host.gather gather_S1024x1024_S8192x1_S8192x1024_1_0_n_n_0_1_11024 x i),
    TRef.unary (TRef.of (T := ⟨S8192, .i1⟩) main_call5_v12) (TRef.of (T := ⟨S8192x1024, .i1⟩) main_call5_v14) (broadcastInDim S8192x1024 ![0] bcast_S8192_S8192x1024_0),
    TRef.nullary (TRef.of (T := ⟨S_, .f32⟩) main_call5_cst) (constant S_ .f32 0x7FC00000#32),
    TRef.unary (TRef.of (T := ⟨S_, .f32⟩) main_call5_cst) (TRef.of (T := ⟨S8192x1024, .f32⟩) main_call5_v15) (broadcastInDim S8192x1024 ![] bcast_S_S8192x1024),
    TRef.ternary (TRef.of (T := ⟨S8192x1024, .i1⟩) main_call5_v14) (TRef.of (T := ⟨S8192x1024, .f32⟩) main_call5_v13) (TRef.of (T := ⟨S8192x1024, .f32⟩) main_call5_v15) (TRef.of (T := ⟨S8192x1024, .f32⟩) main_v76) select ]
/-- The buffers those operations write. -/
abbrev wrB2 : List (Ref sig .tc) :=
  [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v76]

/-- The third level's loss and sum. -/
abbrev opsC2 : List (HloOp τ sig (Elt F)) :=
  [ binary main_v76 main_v60 main_v77 (subf : TX F → TX F → TX F),
    binary main_v77 main_v77 main_v78 (mulf : TX F → TX F → TX F),
    nullary main_cst_19 (constant S_ .f32 0x00000000#32),
    binary main_v78 main_cst_19 main_v79 ((fun x v => Host.reduceAdd x v reducesTo_S8192x1024_S_d0_1 h_S_) : TX F → TS F → TS F),
    nullary main_cst_20 (constant S_ .f32 0x4B000000#32),
    binary main_v79 main_cst_20 main_v80 (Host.divf : TS F → TS F → TS F),
    binary main_v76 main_v60 main_v81 (subf : TX F → TX F → TX F),
    binary main_v81 main_v81 main_v82 (mulf : TX F → TX F → TX F),
    nullary main_cst_21 (constant S_ .f32 0x00000000#32),
    binary main_v82 main_cst_21 main_v83 ((fun x v => Host.reduceAdd x v reducesTo_S8192x1024_S_d0_1 h_S_) : TX F → TS F → TS F),
    nullary main_cst_22 (constant S_ .f32 0x4B000000#32),
    binary main_v83 main_cst_22 main_v84 (Host.divf : TS F → TS F → TS F),
    nullary main_cst_23 (constant S_ .f32 0x3E800000#32),
    binary main_cst_23 main_v84 main_v85 (mulf : TS F → TS F → TS F),
    binary main_v80 main_v85 main_v86 (addf : TS F → TS F → TS F),
    binary main_v76 main_v60 main_v87 (subf : TX F → TX F → TX F),
    binary main_v60 main_v87 main_v88 (addf : TX F → TX F → TX F),
    binary main_v59 main_v88 main_v89 (addf : TX F → TX F → TX F) ]
/-- The buffers those operations write. -/
abbrev wrC2 : List (Ref sig .tc) :=
  [main_v77, main_v78, main_cst_19, main_v79, main_cst_20, main_v80, main_v81, main_v82, main_cst_21, main_v83, main_cst_22, main_v84, main_cst_23, main_v85, main_v86, main_v87, main_v88, main_v89]

/-- The losses side by side. -/
abbrev opsT1 : List (HloOp τ sig (Elt F)) :=
  [ binary main_v60 main_v88 main_v90 (subf : TX F → TX F → TX F),
    unary main_v26 main_v91 (broadcastInDim S1 ![] bcast_S_S1 : TS F → (⟨S1, .f32⟩ : BufTy).Contents (Elt F)),
    unary main_v56 main_v92 (broadcastInDim S1 ![] bcast_S_S1 : TS F → (⟨S1, .f32⟩ : BufTy).Contents (Elt F)),
    unary main_v86 main_v93 (broadcastInDim S1 ![] bcast_S_S1 : TS F → (⟨S1, .f32⟩ : BufTy).Contents (Elt F)),
    nary ![main_v91, main_v92, main_v93] main_v94 (fun u => lossCat (F := F) (u 0) (u 1) (u 2)) ]
/-- The buffers those operations write. -/
abbrev wrT1 : List (Ref sig .tc) :=
  [main_v90, main_v91, main_v92, main_v93, main_v94]

/-- The losses' mean and the positions side by side. -/
abbrev opsT2 : List (HloOp τ sig (Elt F)) :=
  [ nullary main_cst_24 (constant S_ .f32 0x00000000#32),
    binary main_v94 main_cst_24 main_v95 ((fun x v => Host.reduceAdd x v reducesTo_S3_S_d0 h_S_) : (⟨S3, .f32⟩ : BufTy).Contents (Elt F) → TS F → TS F),
    nullary main_cst_25 (constant S_ .f32 0x40400000#32),
    binary main_v95 main_cst_25 main_v96 (Host.divf : TS F → TS F → TS F),
    unary main_v15 main_v97 (broadcastInDim S8192x1 ![0] bcast_S8192_S8192x1_0 : TI F → (⟨S8192x1, .i32⟩ : BufTy).Contents (Elt F)),
    unary main_v45 main_v98 (broadcastInDim S8192x1 ![0] bcast_S8192_S8192x1_0 : TI F → (⟨S8192x1, .i32⟩ : BufTy).Contents (Elt F)),
    unary main_v75 main_v99 (broadcastInDim S8192x1 ![0] bcast_S8192_S8192x1_0 : TI F → (⟨S8192x1, .i32⟩ : BufTy).Contents (Elt F)),
    nary ![main_v97, main_v98, main_v99] main_v100 (fun u => idxCat (F := F) (u 0) (u 1) (u 2)) ]
/-- The buffers those operations write. -/
abbrev wrT2 : List (Ref sig .tc) :=
  [main_cst_24, main_v95, main_cst_25, main_v96, main_v97, main_v98, main_v99, main_v100]

/-- The operations of the program's first piece, in order. -/
abbrev ops0 : List (HloOp τ sig (Elt F)) := opsA0 ++ (opsB0 ++ (opsC0 ++ (opsA1 ++ (opsB1 ++ opsC1a))))
/-- The operations of its second piece. -/
abbrev ops1 : List (HloOp τ sig (Elt F)) := opsC1b ++ (opsA2 ++ (opsB2 ++ (opsC2 ++ opsT1)))
/-- All of its operations. -/
abbrev ops : List (HloOp τ sig (Elt F)) := ops0 ++ (ops1 ++ opsT2)

set_option maxRecDepth 8192 in
set_option maxHeartbeats 4000000 in
theorem part0_eq (c : Dev nD) : main_part0 (F := F) c = seq ops0 := rfl
set_option maxRecDepth 8192 in
set_option maxHeartbeats 4000000 in
theorem part1_eq (c : Dev nD) : main_part1 (F := F) c = seq ops1 := rfl
set_option maxRecDepth 8192 in
theorem part2_eq (c : Dev nD) : main_part2 (F := F) c = seq opsT2 := rfl
/-- The program runs its operations in order. -/
theorem main_eq (c : Dev nD) : main (F := F) c = seq ops := by
  rw [show (ops : List (HloOp τ sig (Elt F))) = ops0 ++ (ops1 ++ opsT2) from rfl, seq_append (l₁ := ops0), seq_append (l₁ := ops1),
    ← part0_eq c, ← part1_eq c, ← part2_eq c]
  rfl
theorem noScopedRefs : (Finset.univ.filter fun b : Ref sig .tc => b.isScoped) = ∅ := by decide
theorem noScopedSems : (Finset.univ.filter fun sm : SemLoc sig => sm.isScoped .tc) = ∅ := by decide
end Cert.RefRun
end
-- ==== Proof.RefRun.lean ====
/- What the reference's buffers hold after its run. -/
module
public import proofs.«01_k».proof.Proof.RefOps
@[expose] public section
noncomputable section
namespace Cert.RefRun
open Cert.ReferenceIdeal Cert.ReferenceIdeal.Gen Idealize.ShloMosaic Idealize.ShloMosaic.TcCoe Idealize.SL.Sem Idealize.ShloMosaic.StableHlo

variable {F : FTy → Type} [FloatOps F]

/-- What a list of operations leaves in one buffer. -/
abbrev at' (ops : List (HloOp τ sig (Elt F))) (V : Valuation τ sig (Elt F)) (b : Ref sig .tc) :
    (Proc.devRef .tc b : DevRef τ sig).ty.Contents (Elt F) := after ops V (Proc.devRef .tc b)

/-- A list of operations writes only the buffers named. -/
abbrev Writes (ops : List (HloOp τ sig (Elt F))) (W : List (Ref sig .tc)) : Prop :=
  ops.map HloOp.writes = W.map fun r => {Proc.devRef (τ := τ) .tc r}

theorem Writes.keep {ops : List (HloOp τ sig (Elt F))} {W : List (Ref sig .tc)} (h : Writes ops W) (V : Valuation τ sig (Elt F))
    {b : Ref sig .tc} (hb : b ∉ W) : at' ops V b = V (Proc.devRef .tc b) :=
  after_of_writes_sub ops V (forall_writes_sub_of_map h) hb

theorem Writes.append {o o' : List (HloOp τ sig (Elt F))} {W W' : List (Ref sig .tc)} (h : Writes o W) (h' : Writes o' W') :
    Writes (o ++ o') (W ++ W') := by
  simp only [Writes, List.map_append] at *; rw [h, h']

set_option maxRecDepth 8192 in
theorem writesA0 : Writes (F := F) opsA0 wrA0 := rfl
set_option maxRecDepth 8192 in
theorem writesB0 : Writes (F := F) opsB0 wrB0 := rfl
set_option maxRecDepth 8192 in
theorem writesC0 : Writes (F := F) opsC0 wrC0 := rfl
set_option maxRecDepth 8192 in
theorem writesA1 : Writes (F := F) opsA1 wrA1 := rfl
set_option maxRecDepth 8192 in
theorem writesB1 : Writes (F := F) opsB1 wrB1 := rfl
set_option maxRecDepth 8192 in
theorem writesC1 : Writes (F := F) (opsC1a ++ opsC1b) (wrC1a ++ wrC1b) := rfl
set_option maxRecDepth 8192 in
theorem writesA2 : Writes (F := F) opsA2 wrA2 := rfl
set_option maxRecDepth 8192 in
theorem writesB2 : Writes (F := F) opsB2 wrB2 := rfl
set_option maxRecDepth 8192 in
theorem writesC2 : Writes (F := F) opsC2 wrC2 := rfl
set_option maxRecDepth 8192 in
theorem writesT : Writes (F := F) (opsT1 ++ opsT2) (wrT1 ++ wrT2) := rfl

/-- A list of operations of this program: each reads and writes only the TensorCore's buffers, and allocates none. -/
structure Plain (ops : List (HloOp τ sig (Elt F))) : Prop where
  sub : ops.Forall fun op => op.bufs ⊆ tcRefs τ sig
  fresh : ops.Forall fun op => op.fresh = ∅

theorem Plain.append {o o' : List (HloOp τ sig (Elt F))} (h : Plain o) (h' : Plain o') : Plain (o ++ o') := by
  have e (p : HloOp τ sig (Elt F) → Prop) (a : o.Forall p) (b : o'.Forall p) : (o ++ o').Forall p := by
    rw [List.forall_iff_forall_mem] at *
    exact fun x hx => (List.mem_append.1 hx).elim (a x) (b x)
  exact ⟨e _ h.1 h'.1, e _ h.2 h'.2⟩

set_option maxRecDepth 8192 in
theorem plain : Plain (F := F) ops := by
  refine ((?_ : Plain opsA0).append ((?_ : Plain opsB0).append ((?_ : Plain opsC0).append ((?_ : Plain opsA1).append
    ((?_ : Plain opsB1).append (?_ : Plain opsC1a)))))).append (((?_ : Plain opsC1b).append ((?_ : Plain opsA2).append
    ((?_ : Plain opsB2).append ((?_ : Plain opsC2).append (?_ : Plain opsT1))))).append (?_ : Plain opsT2)) <;>
  exact ⟨by
    simp only [List.Forall, TRef.nullary, TRef.unary, TRef.binary, TRef.ternary, TRef.quaternary, nullary_bufs_sub, unary_bufs_sub,
      binary_bufs_sub, ternary_bufs_sub, quaternary_bufs_sub, nary_bufs_sub, and_self], forall_fresh_of_map rfl⟩

end Cert.RefRun
end
-- ==== Proof.RefVals.lean ====
/- What each group of the reference's operations computes, and the run of the whole. -/
module
public import proofs.«01_k».proof.Proof.RefRun
@[expose] public section
noncomputable section
namespace Cert.RefRun
open Cert.ReferenceIdeal Cert.ReferenceIdeal.Gen Idealize.ShloMosaic Idealize.ShloMosaic.TcCoe Idealize.SL.Sem Idealize.ShloMosaic.StableHlo

variable {F : FTy → Type} [FloatOps F]

/-- A buffer's contents in a valuation. -/
abbrev buf (V : Valuation τ sig (Elt F)) (b : Ref sig .tc) : (Proc.devRef .tc b : DevRef τ sig).ty.Contents (Elt F) :=
  V (Proc.devRef .tc b)

set_option maxRecDepth 8192
set_option maxHeartbeats 2000000

theorem zeroA0 (V : Valuation τ sig (Elt F)) : at' opsA0 V main_v0 = zeroX (F := F) := by
  simp only [at', opsA0, TRef.binary, TRef.nullary, TRef.quaternary, TRef.unary, TRef.toBuf, TRef.ofBuf, cast_eq]
  after_results_simp; all_goals rfl
/-- The first level's positions. -/
theorem idxA0 (V : Valuation τ sig (Elt F)) : at' opsA0 V main_v15 = amin (dist (buf V main_arg0) (buf V main_arg1)) := by
  simp only [at', opsA0, TRef.binary, TRef.nullary, TRef.quaternary, TRef.unary, TRef.toBuf, TRef.ofBuf, cast_eq]
  after_results_simp; all_goals rfl
/-- The second level's positions. -/
theorem idxA1 (V : Valuation τ sig (Elt F)) : at' opsA1 V main_v45 = amin (dist (buf V main_v30) (buf V main_arg2)) := by
  simp only [at', opsA1, TRef.binary, TRef.nullary, TRef.quaternary, TRef.unary, TRef.toBuf, TRef.ofBuf, cast_eq]
  after_results_simp; all_goals rfl
/-- The third level's positions. -/
theorem idxA2 (V : Valuation τ sig (Elt F)) : at' opsA2 V main_v75 = amin (dist (buf V main_v60) (buf V main_arg3)) := by
  simp only [at', opsA2, TRef.binary, TRef.nullary, TRef.quaternary, TRef.unary, TRef.toBuf, TRef.ofBuf, cast_eq]
  after_results_simp; all_goals rfl
/-- The first level's codes. -/
theorem rowsB0 (V : Valuation τ sig (Elt F)) : at' opsB0 V main_v16 = rows (buf V main_arg1) (buf V main_v15) := by
  simp only [at', opsB0, TRef.binary, TRef.nullary, TRef.ternary, TRef.unary, TRef.toBuf, TRef.ofBuf, cast_eq]
  after_results_simp; all_goals rfl
/-- The second level's codes. -/
theorem rowsB1 (V : Valuation τ sig (Elt F)) : at' opsB1 V main_v46 = rows (buf V main_arg2) (buf V main_v45) := by
  simp only [at', opsB1, TRef.binary, TRef.nullary, TRef.ternary, TRef.unary, TRef.toBuf, TRef.ofBuf, cast_eq]
  after_results_simp; all_goals rfl
/-- The third level's codes. -/
theorem rowsB2 (V : Valuation τ sig (Elt F)) : at' opsB2 V main_v76 = rows (buf V main_arg3) (buf V main_v75) := by
  simp only [at', opsB2, TRef.binary, TRef.nullary, TRef.ternary, TRef.unary, TRef.toBuf, TRef.ofBuf, cast_eq]
  after_results_simp; all_goals rfl
/-- The first level's loss, sum and residual. -/
theorem restC0 (V : Valuation τ sig (Elt F)) :
    at' opsC0 V main_v26 = loss (buf V main_v16) (buf V main_arg0)
    ∧ at' opsC0 V main_v29 = addf (buf V main_v0) (step (buf V main_v16) (buf V main_arg0) : TX F)
    ∧ at' opsC0 V main_v30 = subf (buf V main_arg0) (step (buf V main_v16) (buf V main_arg0) : TX F) := by
  refine ⟨?_, ?_, ?_⟩ <;> (simp only [at', opsC0]; after_results_simp; all_goals rfl)
/-- The second level's loss, sum and residual. -/
theorem restC1 (V : Valuation τ sig (Elt F)) :
    at' (opsC1a ++ opsC1b) V main_v56 = loss (buf V main_v46) (buf V main_v30)
    ∧ at' (opsC1a ++ opsC1b) V main_v59 = addf (buf V main_v29) (step (buf V main_v46) (buf V main_v30) : TX F)
    ∧ at' (opsC1a ++ opsC1b) V main_v60 = subf (buf V main_v30) (step (buf V main_v46) (buf V main_v30) : TX F) := by
  refine ⟨?_, ?_, ?_⟩ <;> (simp only [at', opsC1a, opsC1b, List.cons_append, List.nil_append]; after_results_simp; all_goals rfl)
/-- The third level's loss and sum. -/
theorem restC2 (V : Valuation τ sig (Elt F)) :
    at' opsC2 V main_v86 = loss (buf V main_v76) (buf V main_v60)
    ∧ at' opsC2 V main_v89 = addf (buf V main_v59) (step (buf V main_v76) (buf V main_v60) : TX F) := by
  refine ⟨?_, ?_⟩ <;> (simp only [at', opsC2]; after_results_simp; all_goals rfl)
/-- The mean loss and the positions side by side. -/
theorem tailT (V : Valuation τ sig (Elt F)) :
    at' (opsT1 ++ opsT2) V main_v96 = lossOf (buf V main_v26) (buf V main_v56) (buf V main_v86)
    ∧ at' (opsT1 ++ opsT2) V main_v100 = idxOf (buf V main_v15) (buf V main_v45) (buf V main_v75) := by
  refine ⟨?_, ?_⟩ <;> (simp only [at', opsT1, opsT2, List.cons_append, List.nil_append]; after_results_simp
                       try dsimp only [Matrix.cons_val]
                       try after_results_simp
                       all_goals rfl)

/-- The positions of a level over residual `r` and codebook `cb`. -/
def pos (r : TX F) (cb : TC F) : TI F := amin (dist r cb)
/-- The codes of that level. -/
def code (r : TX F) (cb : TC F) : TX F := rows cb (pos r cb)
/-- The residual that level leaves. -/
def rest (r : TX F) (cb : TC F) : TX F := subf r (step (code r cb) r)

/-- What the results hold after all operations, in terms of the arguments. -/
theorem after_all (V : Valuation τ sig (Elt F)) (x : TX F) (c0 c1 c2 : TC F) (hx : buf V main_arg0 = x) (h0 : buf V main_arg1 = c0)
    (h1 : buf V main_arg2 = c1) (h2 : buf V main_arg3 = c2) :
    at' ops V main_v89 = addf (addf (addf (zeroX (F := F)) (step (code x c0) x)) (step (code (rest x c0) c1) (rest x c0)))
        (step (code (rest (rest x c0) c1) c2) (rest (rest x c0) c1))
    ∧ at' ops V main_v96 = lossOf (loss (code x c0) x) (loss (code (rest x c0) c1) (rest x c0))
        (loss (code (rest (rest x c0) c1) c2) (rest (rest x c0) c1))
    ∧ at' ops V main_v100 = idxOf (pos x c0) (pos (rest x c0) c1) (pos (rest (rest x c0) c1) c2)
    ∧ ∀ b, b ∈ [main_arg0, main_arg1, main_arg2, main_arg3] → at' ops V b = buf V b := by
  have e : after ops V = after (opsT1 ++ opsT2) (after opsC2 (after opsB2 (after opsA2 (after (opsC1a ++ opsC1b) (after opsB1 (after opsA1
      (after opsC0 (after opsB0 (after opsA0 V))))))))) := by
    simp only [ops, ops0, ops1, after_append]
  simp only [at', buf] at e hx h0 h1 h2 ⊢
  rw [e]
  have a0 := zeroA0 V
  have v1 := idxA0 V
  have k1 := fun b hb => writesA0.keep V (b := b) hb
  simp only [at', buf] at v1 k1 a0
  generalize after opsA0 V = V1 at *
  have v2 := rowsB0 V1
  have k2 := fun b hb => writesB0.keep V1 (b := b) hb
  simp only [at', buf] at v2 k2
  generalize after opsB0 V1 = V2 at *
  have v3 := restC0 V2
  have k3 := fun b hb => writesC0.keep V2 (b := b) hb
  simp only [at', buf] at v3 k3
  generalize after opsC0 V2 = V3 at *
  have v4 := idxA1 V3
  have k4 := fun b hb => writesA1.keep V3 (b := b) hb
  simp only [at', buf] at v4 k4
  generalize after opsA1 V3 = V4 at *
  have v5 := rowsB1 V4
  have k5 := fun b hb => writesB1.keep V4 (b := b) hb
  simp only [at', buf] at v5 k5
  generalize after opsB1 V4 = V5 at *
  have v6 := restC1 V5
  have k6 := fun b hb => writesC1.keep V5 (b := b) hb
  simp only [at', buf] at v6 k6
  generalize after (opsC1a ++ opsC1b) V5 = V6 at *
  have v7 := idxA2 V6
  have k7 := fun b hb => writesA2.keep V6 (b := b) hb
  simp only [at', buf] at v7 k7
  generalize after opsA2 V6 = V7 at *
  have v8 := rowsB2 V7
  have k8 := fun b hb => writesB2.keep V7 (b := b) hb
  simp only [at', buf] at v8 k8
  generalize after opsB2 V7 = V8 at *
  have v9 := restC2 V8
  have k9 := fun b hb => writesC2.keep V8 (b := b) hb
  simp only [at', buf] at v9 k9
  generalize after opsC2 V8 = V9 at *
  have v10 := tailT V9
  have k10 := fun b hb => writesT.keep V9 (b := b) hb
  simp only [at', buf] at v10 k10
  simp (disch := decide) only [List.forall_mem_cons, k10, v10, k9, v9, k8, v8, k7, v7, k6, v6, k5, v5, k4, v4, k3, v3, k2, v2, k1, v1, a0, hx, h0, h1, h2]
  refine ⟨rfl, rfl, rfl, ?_⟩
  simp

/-- The sum of the three levels' contributions. -/
def outR (x : TX F) (c0 c1 c2 : TC F) : TX F :=
  addf (addf (addf (zeroX (F := F)) (step (code x c0) x)) (step (code (rest x c0) c1) (rest x c0)))
    (step (code (rest (rest x c0) c1) c2) (rest (rest x c0) c1))
/-- The mean of the three levels' losses. -/
def lossR (x : TX F) (c0 c1 c2 : TC F) : TS F :=
  lossOf (loss (code x c0) x) (loss (code (rest x c0) c1) (rest x c0)) (loss (code (rest (rest x c0) c1) c2) (rest (rest x c0) c1))
/-- The three levels' positions. -/
def posR (x : TX F) (c0 c1 c2 : TC F) : BufTy.Contents (Elt F) (⟨S8192x3, .i32⟩ : BufTy) :=
  idxOf (pos x c0) (pos (rest x c0) c1) (pos (rest (rest x c0) c1) c2)

/-- Every run of the reference ends with the sum, the mean loss and the positions of the arguments, and leaves the arguments alone. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v89) = outR (F := F) (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_v96) = lossR (F := F) (m ((c.tc : Thread nD τ).loc main_arg0)) (m ((c.tc : Thread nD τ).loc main_arg1))
          (m ((c.tc : Thread nD τ).loc main_arg2)) (m ((c.tc : Thread nD τ).loc main_arg3))
      ∧ r.2.mem ((c.tc : Thread nD τ).loc main_v100) = posR (F := F) (m ((c.tc : Thread nD τ).loc main_arg0)) (m ((c.tc : Thread nD τ).loc main_arg1))
          (m ((c.tc : Thread nD τ).loc main_arg2)) (m ((c.tc : Thread nD τ).loc main_arg3))
      ∧ ∀ b ∈ [main_arg0, main_arg1, main_arg2, main_arg3], r.2.mem ((c.tc : Thread nD τ).loc b) = m ((c.tc : Thread nD τ).loc b) :=
  (θ_run defs _ _).mono (fun r h c => by
      have a := after_all (launchContents m c) _ _ _ _ rfl rfl rfl rfl
      exact ⟨(h c main_v89).trans a.1, (h c main_v96).trans a.2.1, (h c main_v100).trans a.2.2.1, fun b hb => (h c b).trans (a.2.2.2 b hb)⟩)
    (run_seq noScopedRefs noScopedSems defs main (fun _ => ops) main_eq (fun _ => plain.sub) m ρ
      fun _ => List.forall_iff_forall_mem.mp plain.fresh)
end Cert.RefRun
end
-- ==== Proof.RefFrame.lean ====
/- The reference's frame. -/
module
public import proofs.«01_k».proof.Defs
public import proofs.«01_k».proof.Proof.RefVals
public import Idealize.ShloMosaic.Lib.Quiescent
@[expose] public section
noncomputable section
namespace Cert.RefRun
open Cert.ReferenceIdeal Cert.ReferenceIdeal.Gen Idealize.ShloMosaic Idealize.ShloMosaic.TcCoe Idealize.SL.Sem Idealize.ShloMosaic.StableHlo

/-- The reference ends, leaves its arguments alone, and every counter at zero: it has none. -/
theorem frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨(h c).2.2.2 _ (by simp), (h c).2.2.2 _ (by simp), (h c).2.2.2 _ (by simp), (h c).2.2.2 _ (by simp)⟩,
    sem_eq_zero_of_no_sems rfl _⟩) (run m g)
end Cert.RefRun
end
-- ==== Proof.Spec.lean ====
/- Residual vector quantisation of one row of reals. -/
module
public import Idealize.ShloMosaic.Lib.Pointwise
@[expose] public section
noncomputable section
namespace Cert.Spec
open Idealize.ShloMosaic Finset

/-- The least position at which `d` is least. -/
theorem exists_least {n : ℕ} [NeZero n] (d : Fin n → ℝ) : ∃ k, (∀ k', d k ≤ d k') ∧ ∀ k', (∀ l, d k' ≤ d l) → k ≤ k' := by
  obtain ⟨k, hk⟩ := Finite.exists_min d
  have hne : (univ.filter fun k => ∀ l, d k ≤ d l).Nonempty := ⟨k, by simpa using hk⟩
  obtain ⟨m, hm, hl⟩ := (univ.filter fun k => ∀ l, d k ≤ d l).exists_min_image id hne
  exact ⟨m, by simpa using hm, fun k' h => hl k' (by simpa using h)⟩

/-- The least position at which `d` is least. -/
def am {n : ℕ} [NeZero n] (d : Fin n → ℝ) : Fin n := (exists_least d).choose
theorem am_le {n : ℕ} [NeZero n] (d : Fin n → ℝ) (k : Fin n) : d (am d) ≤ d k := (exists_least d).choose_spec.1 k
theorem am_least {n : ℕ} [NeZero n] (d : Fin n → ℝ) (k : Fin n) (h : ∀ l, d k ≤ d l) : am d ≤ k := (exists_least d).choose_spec.2 k h
/-- A position at which `d` is no greater than at the least one is not before it. -/
theorem am_le_of_eq {n : ℕ} [NeZero n] (d : Fin n → ℝ) (k : Fin n) (h : d k = d (am d)) : am d ≤ k :=
  am_least d k fun l => h ▸ am_le d l
/-- What determines the least position. -/
theorem eq_am {n : ℕ} [NeZero n] (d : Fin n → ℝ) (k : Fin n) (h : ∀ l, d k ≤ d l) (h' : ∀ l, l < k → d k < d l) : k = am d := by
  refine le_antisymm ?_ (am_least d k h)
  by_contra hc
  exact absurd (am_le d k) (not_le.2 (h' _ (not_le.1 hc)))

/-- A row of reals. -/
abbrev Row := Fin 1024 → ℝ
/-- A codebook: 1024 rows. -/
abbrev Book := Fin 1024 → Row

/-- The expanded squared distances of a row to the codes. -/
def D (r : Row) (cb : Book) (k : Fin 1024) : ℝ := (∑ j, r j * r j - 2 * ∑ j, r j * cb k j) + ∑ j, cb k j * cb k j
/-- They are the sums of the squared differences. -/
theorem D_eq (r : Row) (cb : Book) (k : Fin 1024) : D r cb k = ∑ j, (cb k j - r j) * (cb k j - r j) := by
  rw [D, Finset.mul_sum, ← Finset.sum_sub_distrib, ← Finset.sum_add_distrib]
  exact Finset.sum_congr rfl fun j _ => by ring
/-- The position of the row's code. -/
def K (r : Row) (cb : Book) : Fin 1024 := am (D r cb)
/-- The row's code. -/
def Q (r : Row) (cb : Book) : Row := cb (K r cb)
/-- The row less its code. -/
def R (r : Row) (cb : Book) : Row := fun j => r j - Q r cb j
/-- The squared distance to the code. -/
def M (r : Row) (cb : Book) : ℝ := D r cb (K r cb)

/-- The three levels' residuals. -/
def res (x : Row) (cb : Fin 3 → Book) : ℕ → Row
  | 0 => x
  | 1 => R x (cb 0)
  | _ => R (R x (cb 0)) (cb 1)
/-- The sum of the three codes. -/
def out (x : Row) (cb : Fin 3 → Book) : Row := fun j => Q x (cb 0) j + Q (res x cb 1) (cb 1) j + Q (res x cb 2) (cb 2) j
/-- The sum of the three squared distances. -/
def lossRow (x : Row) (cb : Fin 3 → Book) : ℝ := M x (cb 0) + M (res x cb 1) (cb 1) + M (res x cb 2) (cb 2)
/-- The three positions. -/
def pos (x : Row) (cb : Fin 3 → Book) (l : Fin 3) : Fin 1024 := K (res x cb l) (cb l)
/-- The loss of a whole array of rows. -/
def loss {n : ℕ} (x : Fin n → Row) (cb : Fin 3 → Book) : ℝ := (∑ i, lossRow (x i) cb) * (5 / 100663296)

/-- A rank-2 array of reals, in the extended reals. -/
def cV {a b : ℕ} (f : Fin a → Fin b → ℝ) : (⟨2, ![a, b]⟩ : Shape).Idx → EReal := fun i => ((f (i 0) (i 1) : ℝ) : EReal)
theorem cV_apply {a b : ℕ} (f : Fin a → Fin b → ℝ) (p : Fin a) (q : Fin b) : cV f (ix2 p q) = ((f p q : ℝ) : EReal) := rfl
/-- A rank-1 array of reals, in the extended reals. -/
def cW {a : ℕ} (f : Fin a → ℝ) : (⟨1, ![a]⟩ : Shape).Idx → EReal := fun i => ((f (i 0) : ℝ) : EReal)
theorem cW_apply {a : ℕ} (f : Fin a → ℝ) (p : Fin a) : cW f (ix1 p) = ((f p : ℝ) : EReal) := rfl
/-- The words of positions. -/
def cP {a : ℕ} (f : Fin a → Fin 1024) : (⟨1, ![a]⟩ : Shape).Idx → BitVec 32 := fun i => BitVec.ofNat 32 (f (i 0)).val

/-- A sum of reals, in the extended reals. -/
theorem coe_sum {n : ℕ} (f : Fin n → ℝ) : ∑ j, ((f j : ℝ) : EReal) = ((∑ j, f j : ℝ) : EReal) := by
  induction n with
  | zero => simp
  | succ n ih => rw [Fin.sum_univ_succ, Fin.sum_univ_succ, ih, EReal.coe_add]

/-- The least of finitely many reals, as a fold in the extended reals. -/
theorem fold_min {n : ℕ} [NeZero n] (d : Fin n → ℝ) : (univ : Finset (Fin n)).fold min (⊤ : EReal) (fun k => ((d k : ℝ) : EReal)) = ((d (am d) : ℝ) : EReal) := by
  refine le_antisymm ((Finset.fold_min_le _).2 (.inr ⟨am d, mem_univ _, le_rfl⟩)) ((Finset.le_fold_min _).2 ⟨le_top, fun k _ => ?_⟩)
  exact EReal.coe_le_coe_iff.2 (am_le d k)

/-- A fold of the signed minimum is one of the folded words, and none is smaller. -/
theorem fold_minsi_spec {ι : Type*} (s : Finset ι) (b : BitVec 32) (f : ι → BitVec 32) :
    (s.fold IntOp.minsi b f = b ∨ ∃ k ∈ s, s.fold IntOp.minsi b f = f k) ∧ (s.fold IntOp.minsi b f).toInt ≤ b.toInt
      ∧ ∀ k ∈ s, (s.fold IntOp.minsi b f).toInt ≤ (f k).toInt := by
  classical
  induction s using Finset.induction_on with
  | empty => simp
  | insert a s ha ih =>
    obtain ⟨h1, h2, h3⟩ := ih
    rw [Finset.fold_insert ha, IntOp.minsi]
    by_cases hc : (f a).toInt < (s.fold IntOp.minsi b f).toInt
    · have hs : (f a).slt (s.fold IntOp.minsi b f) = true := by simpa [BitVec.slt_eq_decide] using hc
      simp only [hs]
      refine ⟨.inr ⟨a, by simp, rfl⟩, by simpa using (hc.le.trans h2), fun k hk => ?_⟩
      rcases Finset.mem_insert.1 hk with rfl | hk
      · simp
      · simpa using hc.le.trans (h3 k hk)
    · have hs : (f a).slt (s.fold IntOp.minsi b f) = false := by simpa [BitVec.slt_eq_decide] using hc
      simp only [hs]
      refine ⟨?_, by simpa using h2, fun k hk => ?_⟩
      · rcases h1 with h | ⟨k, hk, h⟩
        · exact .inl (by simpa using h)
        · exact .inr ⟨k, by simp [hk], by simpa using h⟩
      · rcases Finset.mem_insert.1 hk with rfl | hk
        · simpa using hc
        · simpa using h3 k hk

/-- The first position at which `p` holds, as the kernel finds it: the least of the positions with `p`, 1024 where not. -/
theorem fold_first (p : Fin 1024 → Prop) [DecidablePred p] (m : Fin 1024) (hm : p m) (hl : ∀ k, p k → m ≤ k) :
    (univ : Finset (Fin 1024)).fold IntOp.minsi 2147483647#32 (fun k => if p k then BitVec.ofNat 32 k.val else 1024#32) = BitVec.ofNat 32 m.val := by
  have hv : ∀ k : Fin 1024, (BitVec.ofNat 32 k.val).toInt = k.val := fun k => by
    have := k.isLt
    rw [BitVec.toInt_eq_toNat_of_lt (by rw [BitVec.toNat_ofNat]; omega), BitVec.toNat_ofNat, Nat.mod_eq_of_lt (by omega)]
  obtain ⟨h1, -, h3⟩ := fold_minsi_spec (univ : Finset (Fin 1024)) 2147483647#32 (fun k => if p k then BitVec.ofNat 32 k.val else 1024#32)
  generalize (univ : Finset (Fin 1024)).fold IntOp.minsi 2147483647#32 (fun k => if p k then BitVec.ofNat 32 k.val else 1024#32) = a at *
  have hle := h3 m (mem_univ _)
  rw [if_pos hm, hv] at hle
  have := m.isLt
  rcases h1 with rfl | ⟨k, -, h⟩
  · exact absurd hle (by rw [show (2147483647#32).toInt = 2147483647 by decide]; omega)
  · by_cases hk : p k
    · rw [if_pos hk] at h
      rw [h, hv] at hle
      have := hl k hk
      rw [h, show k = m from le_antisymm (by exact_mod_cast hle) this]
    · rw [if_neg hk] at h
      rw [h, show (1024#32).toInt = 1024 by decide] at hle
      omega
end Cert.Spec
end
-- ==== Proof.Level.lean ====
/- One level of the kernel's quantisation of a block of 256 rows: its operations as a few named functions, and what each
   computes on arrays of reals. -/
module
public import proofs.«01_k».proof.Proof.Spec
public import proofs.«01_k».proof.Proof.Gen.KernelIdeal.Frame
@[expose] public section
set_option maxRecDepth 16384
noncomputable section
namespace Cert.Level
open Idealize.ShloMosaic Idealize.SL.Sem Cert.KernelIdeal Cert.KernelIdeal.Gen Cert.Spec

section defs
variable {F : FTy → Type} [FloatOps F] [Named F]
/-- A tile of distances: rows `r` of squared norms `q` against 256 codes `c` of squared norms `n`. -/
def dist (q : FVec F S256x1 .f32) (r c : FVec F S256x1024 .f32) (n : FVec F S1x256 .f32) : FVec F S256x256 .f32 :=
  addf (subf (broadcastTo S256x256 q broadcasts_S256x1_S256x256)
    (mulf (broadcast S256x256 (Scalar.ofBits .f32 0x40000000#32))
      (matmul dot_S256x1024_S256x1024_S256x256_1_1_0_0_n_n none r c (constant S256x256 .f32 0x00000000#32))))
    (broadcastTo S256x256 (shapeCast S1x256 (shapeCast S256 n shapeCasts_S1x256_S256) shapeCasts_S256_S1x256) broadcasts_S1x256_S256x256)
/-- The squared norms of the rows. -/
def sq (r : FVec F S256x1024 .f32) : FVec F S256x1 .f32 :=
  shapeCast S256x1 (multiReduction .add [1] S256 (mulf r r) 0x00000000#32 reduces_S256x1024_S256 (.inl rfl) rfl) shapeCasts_S256_S256x1
/-- The least distance of each row. -/
def least (d : FVec F S256x1024 .f32) : FVec F S256 .f32 :=
  multiReduction .minimumf [1] S256 d 0x7F800000#32 reduces_S256x1024_S256 (.inl rfl) rfl
/-- The first position of the least distance of each row. -/
def first (d : FVec F S256x1024 .f32) : IVec S256 32 :=
  multiReductionI .minsi [1] S256 (select (cmpf .oeq d (broadcastTo S256x1024 (shapeCast S256x1 (least d) shapeCasts_S256_S256x1) broadcasts_S256x1_S256x1024))
    (iota .tc S256x1024 32 [1] iota_S256x1024_d1_w32) (broadcast S256x1024 1024#32)) 2147483647#32 reduces_S256x1024_S256 rfl
/-- The rows with a one at the position `i`, zero elsewhere. -/
def hot (i : IVec S256 32) : FVec F S256x1024 .f32 :=
  sitofp .f32 (extui 32 (cmpi .eq (broadcastTo S256x1024 (shapeCast S256x1 i shapeCasts_S256_S256x1) broadcasts_S256x1_S256x1024)
    (broadcastTo S256x1024 (iota .tc S1x1024 32 [1] iota_S1x1024_d1_w32) broadcasts_S1x1024_S256x1024)) natLt_1_32)
/-- The high part of a table, as the idealised kernel has it. -/
def hi (c : FVec F S1024x256 .f32) : FVec F S1024x256 .f32 := extf .f32 (truncf .bf16 c)
/-- A product of the rows `h` with a part of the table. -/
def prod (h : FVec F S256x1024 .f32) (c : FVec F S1024x256 .f32) : FVec F S256x256 .f32 :=
  matmul dot_S256x1024_S1024x256_S256x256_1_0_0_1_n_n none h c (constant S256x256 .f32 0x00000000#32)
/-- The straight-through code: residual plus (code less residual), the code gathered in three parts. -/
def code (h : FVec F S256x1024 .f32) (c : FVec F S1024x256 .f32) (r : FVec F S256x256 .f32) : FVec F S256x256 .f32 :=
  addf r (subf (addf (addf (prod h (hi c)) (prod h (hi (subf c (hi c))))) (prod h (subf (subf c (hi c)) (hi (subf c (hi c)))))) r)
end defs

/-! ## On reals -/

/-- A word of finite format read as its value: two. -/
theorem two : (Ideal.ofBits .f32 0x40000000#32 : EReal) = ((2 : ℝ) : EReal) := by
  simp [Ideal.ofBits, Ideal.ieee, -EReal.coe_mul]; norm_num

/-- The distances of rows of reals to codes of reals. -/
theorem dist_val (s : Fin 256 → Fin 1 → ℝ) (r c : Fin 256 → Row) (n : Fin 1 → Fin 256 → ℝ) :
    dist (F := Ideal) (cV s) (cV r) (cV c) (cV n) = cV fun p k => (s p 0 - 2 * ∑ j, r p j * c k j) + n 0 k := by
  funext i
  idx_vars i
  pointwise [dist, cV_apply, two]
  simp only [← EReal.coe_mul, coe_sum, ← EReal.coe_sub, ← EReal.coe_add]

/-- The squared norms of rows of reals. -/
theorem sq_val (r : Fin 256 → Row) : sq (F := Ideal) (cV r) = cV fun p _ => ∑ j, r p j * r p j := by
  funext i
  idx_vars i
  pointwise [sq, cV_apply]
  simp only [← EReal.coe_mul, coe_sum]

/-- The least of the distances of each row. -/
theorem least_val (d : Fin 256 → Row) : least (F := Ideal) (cV d) = cW fun p => d p (am (d p)) := by
  funext i
  idx_vars i
  pointwise [least, cV_apply, cW_apply]
  exact fold_min _

/-- The position of each row's least distance. -/
theorem first_val (d : Fin 256 → Row) : first (F := Ideal) (cV d) = cP fun p => am (d p) := by
  funext i
  idx_vars i
  rw [first, least_val]
  pointwise [cV_apply, cW_apply]
  simp only [EReal.coe_eq_coe_iff]
  exact fold_first (fun k => d i0 k = d i0 (am (d i0))) (am (d i0)) rfl fun k hk => am_le_of_eq _ _ hk

/-- A one at the position, zero elsewhere. -/
def oh (k : Fin 256 → Fin 1024) : Fin 256 → Row := fun p j => if j = k p then 1 else 0

/-- The kernel's rows of ones and zeros. -/
theorem hot_val (k : Fin 256 → Fin 1024) : hot (F := Ideal) (cP k) = cV (oh k) := by
  funext i
  idx_vars i
  pointwise [hot, cP, cV_apply, oh]
  have h1 := (k i0).isLt
  have h2 := i1.isLt
  by_cases h : i1 = k i0
  · subst h
    simp [IntOp.cmpi, FloatOps.sitofp]
  · have hne : BitVec.ofNat 32 (k i0).val ≠ BitVec.ofNat 32 i1.val := fun e => h (Fin.ext (by
      have := congrArg BitVec.toNat e
      rw [BitVec.toNat_ofNat, BitVec.toNat_ofNat, Nat.mod_eq_of_lt (by omega), Nat.mod_eq_of_lt (by omega)] at this
      exact this.symm))
    have hb : (BitVec.ofNat 32 (k i0).val == BitVec.ofNat 32 i1.val) = false := by simpa using hne
    simp [IntOp.cmpi, hb, h, FloatOps.sitofp]

/-- The straight-through code of rows of reals is the code. -/
theorem code_val (k : Fin 256 → Fin 1024) (c : Fin 1024 → Fin 256 → ℝ) (r : Fin 256 → Fin 256 → ℝ) :
    code (F := Ideal) (cV (oh k)) (cV c) (cV r) = cV fun p j => c (k p) j := by
  funext i
  idx_vars i
  pointwise [code, prod, hi, cV_apply, oh]
  simp only [← EReal.coe_mul, ← EReal.coe_sub, coe_sum, ← EReal.coe_add]
  simp

/-- The loss of a block: the sum of the rows' losses times the named constant, in every lane. -/
theorem loss_val (l : Fin 256 → ℝ) : k0_pay2 (F := Ideal) (cW l) = fun _ => (((∑ p, l p) * (5 / 100663296) : ℝ) : EReal) := by
  funext i
  have hn : Named.named (F := Ideal) κ "loss_scale" (φ := .f32) 0x33555555#32 = ((5 / 100663296 : ℝ) : EReal) :=
    IdealRules.named_const.ideal_named_scalar _ _ _ _ rfl
  pointwise [k0_pay2, cW_apply]
  rw [hn]
  simp only [← EReal.coe_mul, coe_sum]

/-- Differences and sums of arrays of reals. -/
theorem sub_val {a b : ℕ} (f g : Fin a → Fin b → ℝ) : subf (F := Ideal) (s := ⟨2, ![a, b]⟩) (φ := .f32) (cV f) (cV g) = cV fun p q => f p q - g p q := by
  funext i; exact (EReal.coe_sub _ _).symm
theorem add_val {a b : ℕ} (f g : Fin a → Fin b → ℝ) : addf (F := Ideal) (s := ⟨2, ![a, b]⟩) (φ := .f32) (cV f) (cV g) = cV fun p q => f p q + g p q := by
  funext i; exact (EReal.coe_add _ _).symm
theorem addW_val {a : ℕ} (f g : Fin a → ℝ) : addf (F := Ideal) (s := ⟨1, ![a]⟩) (φ := .f32) (cW f) (cW g) = cW fun p => f p + g p := by
  funext i; exact (EReal.coe_add _ _).symm

/-! ## The printed values are these functions -/

/-- A cast to the same shape changes nothing. -/
theorem cast_self {s : Shape} {α : Type} (x : s.Idx → α) (h : s.ShapeCasts s) : shapeCast s x h = x := shapeCast_id x h

section pays
variable (q : FVec Ideal S256x1 .f32) (r c d o : FVec Ideal S256x1024 .f32) (n : FVec Ideal S1x256 .f32) (t : FVec Ideal S1024x256 .f32)
  (e f : FVec Ideal S256x256 .f32) (m : IVec S256x1024 1)

theorem p3 : k0_pay3 r = r := cast_self _ _
theorem p4 : k0_pay4 (F := Ideal) = cW fun _ => 0 := by
  funext i
  exact (Ideal.ofBits_zero_f32).trans EReal.coe_zero.symm
theorem p5 : k0_pay5 q = q := cast_self _ _
theorem p6 : k0_pay6 r q c n = dist q r c n := by
  simp only [k0_pay6, p5, cast_self]; rfl
theorem p8 : k0_pay8 (k0_pay7 r q c n) = dist q r c n := by
  simp only [k0_pay7, k0_pay8, p5, cast_self]; rfl
theorem p9 : k0_pay9 r q c n = dist q r c n := cast_self _ _
theorem p10 : k0_pay10 r q c n = dist q r c n := cast_self _ _
theorem p28 : k0_pay28 r = sq r := rfl
theorem p52 : k0_pay52 r = sq r := rfl
theorem p30 : k0_pay30 (k0_pay29 r c n) = dist (sq r) r c n := cast_self _ _
theorem p31 : k0_pay31 r q c n = dist q r c n := cast_self _ _
theorem p32 : k0_pay32 r q c n = dist q r c n := cast_self _ _
theorem p34 : k0_pay34 (k0_pay33 r q c) n = dist q r c n := cast_self _ _
theorem p53 : k0_pay53 r c n = dist (sq r) r c n := cast_self _ _
theorem p56 : k0_pay56 (k0_pay54 r c) (k0_pay55 n) = dist (sq r) r c n := cast_self _ _
theorem p57 : k0_pay57 r q c n = dist q r c n := cast_self _ _
theorem p58 : k0_pay58 r q c n = dist q r c n := cast_self _ _
theorem p11 : k0_pay11 d = least d := rfl
theorem p35 : k0_pay35 d = least d := rfl
theorem p59 : k0_pay59 d = least d := rfl
theorem p13 : k0_pay13 kernelRun0_A.sl.v66 (k0_pay12 (F := Ideal) d) = first (F := Ideal) d := rfl
theorem p36 : k0_pay36 (F := Ideal) d = first (F := Ideal) d := rfl
theorem p61 : k0_pay61 d kernelRun0_A.sl.v66 (k0_pay60 (F := Ideal) d) = first (F := Ideal) d := rfl
theorem p15 : k0_pay15 kernelRun0_A.sl.v66 (k0_pay12 (F := Ideal) d) = hot (F := Ideal) (first (F := Ideal) d) := rfl
theorem p38 : k0_pay38 (F := Ideal) d = hot (F := Ideal) (first (F := Ideal) d) := rfl
theorem p63 : k0_pay63 d kernelRun0_A.sl.v66 (k0_pay60 (F := Ideal) d) = hot (F := Ideal) (first (F := Ideal) d) := rfl
theorem p16 : k0_pay16 kernelRun0_A.sl.v66 (k0_pay12 (F := Ideal) d) t e = code (hot (F := Ideal) (first (F := Ideal) d)) t e := rfl
theorem p22 : k0_pay22 o (k0_pay18 t) (k0_pay20 t) (k0_pay21 t) (constant S256x256 .f32 0x00000000#32) e = code o t e := rfl
theorem p24 : k0_pay24 o t e = code o t e := rfl
theorem p26 : k0_pay26 o t e = code o t e := rfl
theorem p39 : k0_pay39 d t e = code (hot (F := Ideal) (first (F := Ideal) d)) t e := rfl
theorem p42 : k0_pay42 o t e = code o t e := rfl
theorem p46 : k0_pay46 o t (k0_pay45 t) e = code o t e := rfl
theorem p49 : k0_pay49 o t e = code o t e := rfl
theorem p64 : k0_pay64 d kernelRun0_A.sl.v66 (k0_pay60 (F := Ideal) d) t e = code (hot (F := Ideal) (first (F := Ideal) d)) t e := rfl
theorem p67 : k0_pay67 o t e = code o t e := rfl
theorem p70 : k0_pay70 o t e = code o t e := rfl
theorem p73 : k0_pay73 o t e = code o t e := rfl
theorem p17 : k0_pay17 kernelRun0_A.sl.v66 (k0_pay12 (F := Ideal) d) t e = subf e (code (hot (F := Ideal) (first (F := Ideal) d)) t e) := cast_self _ _
theorem p23 : k0_pay23 (F := Ideal) o (k0_pay18 t) (k0_pay20 t) (k0_pay21 t) (constant S256x256 .f32 0x00000000#32) e = subf e (code o t e) := cast_self _ _
theorem p25 : k0_pay25 o t e = subf e (code o t e) := cast_self _ _
theorem p27 : k0_pay27 o t e = subf e (code o t e) := cast_self _ _
theorem p41 : k0_pay41 e f = subf e f := cast_self _ _
theorem p44 : k0_pay44 o t e = subf e (code o t e) := cast_self _ _
theorem p48 : k0_pay48 o t (k0_pay45 t) e = subf e (code o t e) := cast_self _ _
theorem p51 : k0_pay51 e f = subf e f := cast_self _ _
theorem p66 : k0_pay66 d kernelRun0_A.sl.v66 (k0_pay60 (F := Ideal) d) t e = subf e (code (hot (F := Ideal) (first (F := Ideal) d)) t e) := cast_self _ _
theorem p69 : k0_pay69 o t e = subf e (code o t e) := cast_self _ _
theorem p72 : k0_pay72 e f = subf e f := cast_self _ _
theorem p40 : k0_pay40 e f = addf f e := by simp only [k0_pay40, cast_self]
theorem p43 : k0_pay43 o t e f = addf f (code o t e) := by simp only [k0_pay43, p42, cast_self]
theorem p47 : k0_pay47 o t (k0_pay45 t) e f = addf f (code o t e) := by simp only [k0_pay47, p46, cast_self]
theorem p50 : k0_pay50 e f = addf f e := by simp only [k0_pay50, cast_self]
theorem p65 : k0_pay65 d kernelRun0_A.sl.v66 (k0_pay60 (F := Ideal) d) t e f = addf f (code (hot (F := Ideal) (first (F := Ideal) d)) t e) := by simp only [k0_pay65, p64, cast_self]
theorem p68 : k0_pay68 o t e f = addf f (code o t e) := by simp only [k0_pay68, p67, cast_self]
theorem p71 : k0_pay71 e f = addf f e := by simp only [k0_pay71, cast_self]
theorem p74 : k0_pay74 o t e f = addf f (code o t e) := by simp only [k0_pay74, p73, cast_self]
end pays
end Cert.Level
end
-- ==== Proof.Tiles.lean ====
/- Reading and storing tiles of arrays of reals. -/
module
public import proofs.«01_k».proof.Proof.Level
public import proofs.«01_k».proof.Proof.Gen.KernelIdeal.Frame
public import Idealize.ShloMosaic.Lib.Pipeline.ReadBack
public import Idealize.ShloMosaic.Lib.Pipeline.ValueKit.Tiles
@[expose] public section
set_option maxRecDepth 16384
noncomputable section
namespace Cert.Level
open Idealize.ShloMosaic Idealize.SL.Sem Cert.KernelIdeal Cert.KernelIdeal.Gen Cert.Spec

/-- 256 columns from the column `o`. -/
def cols {a : ℕ} (o : ℕ) (h : o + 256 ≤ 1024) (f : Fin a → Row) : Fin a → Fin 256 → ℝ := fun p q => f p ⟨o + q.val, by omega⟩
/-- 256 rows from the row `o`. -/
def rows (o : ℕ) (h : o + 256 ≤ 1024) (f : Book) : Fin 256 → Row := fun p q => f ⟨o + p.val, by omega⟩ q
/-- The row `l` of an array of rows, as an array of one row. -/
def line (l : Fin 8) (f : Fin 8 → Row) : Fin 1 → Row := fun _ => f l

/-- What a load through a rectangle reads of a whole buffer given its contents, -/
theorem rd {S : Shape} {e : EltTy} {sp : Space} (m : Memref sig .tc sp S e) (h : m.IsWhole) (X : S.Idx → Elt Ideal e) (r : Rect S) :
    View.readAt (Elt Ideal) m.view r.toLoadRect (h.unread X) = View.ld X r := by
  rw [View.readAt_eq_ld, h.read_unread]
/-- and of a buffer written in pieces. -/
theorem rc {S : Shape} {e : EltTy} {sp : Space} (v : View sig .tc sp S e) (L : List (View.Piece (Elt Ideal) S e)) (r : Rect S) :
    v.readCov L r.toLoadRect = View.ld (View.canon L) r := View.readCov_eq_canon' v L r.toLoadRect
/-- A load of the whole array of 256 rows. -/
theorem ld_all (X : S256x1024.Idx → Elt Ideal .f32) : View.ld X (Rect.unit ![0, 0] S256x1024.size inb_S256x1024_S256x1024_0_0) = X := by
  funext x
  exact View.ld_unit_apply_of X _ _ _ x x (by intro a; fin_cases a <;> simp)

/-- What a load of 256 columns reads, of 256 rows and of 1024; -/
theorem ld_cols (o : ℕ) (f : Fin 256 → Row) (inb) (h : o + 256 ≤ 1024) :
    View.ld (S := S256x1024) (Val := Elt Ideal) (e' := .f32) (cV f) (Rect.unit ![0, o] S256x256.size inb) = cV (cols o h f) := by
  funext x
  exact View.ld_unit_apply_of _ _ _ _ x (ix2 (x 0) ⟨o + (x 1).val, by have : (x 1).val < 256 := (x 1).isLt; omega⟩) (by intro a; fin_cases a <;> simp)
theorem ld_colsB (o : ℕ) (f : Book) (inb) (h : o + 256 ≤ 1024) :
    View.ld (S := S1024x1024) (Val := Elt Ideal) (e' := .f32) (cV f) (Rect.unit ![0, o] S1024x256.size inb) = cV (cols o h f) := by
  funext x
  exact View.ld_unit_apply_of _ _ _ _ x (ix2 (x 0) ⟨o + (x 1).val, by have : (x 1).val < 256 := (x 1).isLt; omega⟩) (by intro a; fin_cases a <;> simp)
/-- of 256 rows; -/
theorem ld_rows (o : ℕ) (f : Book) (inb) (h : o + 256 ≤ 1024) :
    View.ld (S := S1024x1024) (Val := Elt Ideal) (e' := .f32) (cV f) (Rect.unit ![o, 0] S256x1024.size inb) = cV (rows o h f) := by
  funext x
  exact View.ld_unit_apply_of _ _ _ _ x (ix2 ⟨o + (x 0).val, by have : (x 0).val < 256 := (x 0).isLt; omega⟩ (x 1)) (by intro a; fin_cases a <;> simp)
/-- of 256 columns of one row; -/
theorem ld_line (l o : ℕ) (f : Fin 8 → Row) (inb) (h : o + 256 ≤ 1024) (hl : l < 8) :
    View.ld (S := S8x1024) (Val := Elt Ideal) (e' := .f32) (cV f) (Rect.unit ![l, o] S1x256.size inb) = cV (cols o h (line ⟨l, hl⟩ f)) := by
  funext x
  exact View.ld_unit_apply_of _ _ _ _ x (ix2 ⟨l, hl⟩ ⟨o + (x 1).val, by have : (x 1).val < 256 := (x 1).isLt; omega⟩)
    (by intro a; have : (x 0).val < 1 := (x 0).isLt; fin_cases a <;> simp at * <;> omega)
/-- of the first column. -/
theorem ld_col0 (f : Fin 256 → Fin 128 → ℝ) (inb) :
    View.ld (S := S256x128) (Val := Elt Ideal) (e' := .f32) (cV f) (Rect.unit ![0, 0] S256x1.size inb) = cV fun p (_ : Fin 1) => f p 0 := by
  funext x
  exact View.ld_unit_apply_of _ _ _ _ x (ix2 (x 0) 0) (by intro a; have : (x 1).val < 1 := (x 1).isLt; fin_cases a <;> simp at * <;> omega)

/-- Four tiles of 256 columns, the last first, over anything, are the array. -/
theorem tiles (f : Fin 256 → Row) (L : List (View.Piece (Elt Ideal) S256x1024 .f32)) {t0 t1 t2 t3 : S256x256.Idx → Elt Ideal .f32}
    (h0 : t0 = cV (cols 0 (by omega) f)) (h1 : t1 = cV (cols 256 (by omega) f)) (h2 : t2 = cV (cols 512 (by omega) f)) (h3 : t3 = cV (cols 768 (by omega) f)) :
    View.canon (⟨Rect.unit (s := S256x1024) ![0, 768] S256x256.size inb_S256x1024_S256x256_0_768, t3⟩ :: ⟨Rect.unit (s := S256x1024) ![0, 512] S256x256.size inb_S256x1024_S256x256_0_512, t2⟩
      :: ⟨Rect.unit (s := S256x1024) ![0, 256] S256x256.size inb_S256x1024_S256x256_0_256, t1⟩ :: ⟨Rect.unit (s := S256x1024) ![0, 0] S256x256.size inb_S256x1024_S256x256_0_0, t0⟩ :: L) = cV f := by
  subst h0 h1 h2 h3
  funext y
  refine View.canon_append_of_piecesOf (cV f) L [_, _, _, _] ?_ y (View.cover_of_tiledL (s := S256x1024) _ S256x256.size (by sl_kernel_rfl) y)
  exact ⟨fun x => (congrFun (ld_cols 768 f inb_S256x1024_S256x256_0_768 (by omega)) x).symm, fun x => (congrFun (ld_cols 512 f inb_S256x1024_S256x256_0_512 (by omega)) x).symm, fun x => (congrFun (ld_cols 256 f inb_S256x1024_S256x256_0_256 (by omega)) x).symm,
    fun x => (congrFun (ld_cols 0 f inb_S256x1024_S256x256_0_0 (by omega)) x).symm, trivial⟩
end Cert.Level
end
-- ==== Proof.Body.lean ====
/- What the kernel's body leaves in its outputs' blocks, on arrays of reals. -/
module
public import proofs.«01_k».proof.Proof.Tiles
@[expose] public section
set_option maxRecDepth 16384
noncomputable section
namespace Cert.Level
open Idealize.ShloMosaic Idealize.SL.Sem Cert.KernelIdeal Cert.KernelIdeal.Gen Cert.Spec

/-- A tile of distances of all rows to 256 codes is that tile of the whole array of distances. -/
theorem dist_tile (o : ℕ) (h : o + 256 ≤ 1024) (s : Fin 256 → Fin 1 → ℝ) (r : Fin 256 → Row) (b : Book) (n : Fin 8 → Row) (l : Fin 8)
    (hs : ∀ p, s p 0 = ∑ j, r p j * r p j) (hn : ∀ k, n l k = ∑ j, b k j * b k j) :
    dist (F := Ideal) (cV s) (cV r) (cV (rows o h b)) (cV (cols o h (line l n))) = cV (cols o h fun p => D (r p) b) := by
  rw [dist_val]
  congr 1
  funext p k
  rw [hs, show cols o h (line l n) 0 k = _ from hn _]
  rfl
/-- A tile of codes is that tile of the whole array of codes. -/
theorem code_tile (o : ℕ) (h : o + 256 ≤ 1024) (k : Fin 256 → Fin 1024) (b : Book) (r : Fin 256 → Row) :
    code (F := Ideal) (cV (oh k)) (cV (cols o h b)) (cV (cols o h r)) = cV (cols o h fun p => b (k p)) := code_val _ _ _
/-- A tile of differences, and of sums. -/
theorem sub_tile (o : ℕ) (h : o + 256 ≤ 1024) (f g : Fin 256 → Row) :
    subf (F := Ideal) (s := S256x256) (φ := .f32) (cV (cols o h f)) (cV (cols o h g)) = cV (cols o h fun p j => f p j - g p j) := sub_val _ _
theorem add_tile (o : ℕ) (h : o + 256 ≤ 1024) (f g : Fin 256 → Row) :
    addf (F := Ideal) (s := S256x256) (φ := .f32) (cV (cols o h f)) (cV (cols o h g)) = cV (cols o h fun p j => f p j + g p j) := add_val _ _

variable (c : Dev nD)
  (arg1 : Memref sig .tc .vmem S256x1024 .f32) (harg1 : arg1.IsWhole) (arg2 : Memref sig .tc .vmem S256x128 .f32) (harg2 : arg2.IsWhole)
  (arg3 : Memref sig .tc .vmem S1024x1024 .f32) (harg3 : arg3.IsWhole) (arg4 : Memref sig .tc .vmem S1024x1024 .f32) (harg4 : arg4.IsWhole)
  (arg5 : Memref sig .tc .vmem S1024x1024 .f32) (harg5 : arg5.IsWhole) (arg6 : Memref sig .tc .vmem S8x1024 .f32) (harg6 : arg6.IsWhole)
  (arg7 : Memref sig .tc .vmem S256x1024 .f32) (harg7 : arg7.IsWhole) (arg8 : Memref sig .tc .vmem S8x256 .i32) (harg8 : arg8.IsWhole)
  (arg9 : Memref sig .tc .vmem S1x1x128 .f32) (harg9 : arg9.IsWhole) (arg10 : Memref sig .tc .vmem S256x1024 .f32) (harg10 : arg10.IsWhole)
  (arg11 : Memref sig .tc .vmem S256x1024 .f32) (harg11 : arg11.IsWhole)
  (x : Fin 256 → Row) (q : Fin 256 → Fin 128 → ℝ) (c0 c1 c2 : Book) (n : Fin 8 → Row)

/-- The residuals start as the rows. -/
theorem s0 : View.canon (kernelRun0_A.sl.HS0_1 (F := Ideal) c arg1 harg1 (cV x)) = cV x := by
  rw [kernelRun0_A.sl.HS0_1, rd, p3, ld_all]
  exact View.canon_unit_zero (by decide) _ _
theorem v5 : kernelRun0_A.sl.v5 (F := Ideal) c arg1 harg1 arg10 (cV x) = cV x := by rw [kernelRun0_A.sl.v5, rc, s0, ld_all]

variable (hq : ∀ p, q p 0 = ∑ j, x p j * x p j) (h0 : ∀ k, n 0 k = ∑ j, c0 k j * c0 k j) (h1 : ∀ k, n 1 k = ∑ j, c1 k j * c1 k j)
  (h2 : ∀ k, n 2 k = ∑ j, c2 k j * c2 k j)
include hq h0

/-- The distances of the first level. -/
theorem d0 : kernelRun0_A.sl.v64 (F := Ideal) c arg1 harg1 arg2 harg2 arg3 harg3 arg6 harg6 arg10 arg11 (cV x) (cV q) (cV c0) (cV n) = cV fun p => D (x p) c0 := by
  rw [kernelRun0_A.sl.v64, rc, ld_all, kernelRun0_A.sl.HS1_4]
  refine tiles _ _ ?_ ?_ ?_ ?_ <;>
  simp only [kernelRun0_A.sl.r_1, kernelRun0_A.sl.r, p6, p8, p9, p10, p5, v5, rd] <;>
  (rw [ld_col0, ld_rows _ _ _ (by omega), ld_line _ _ _ _ (by omega) (by omega)]; exact dist_tile _ _ _ _ _ _ _ hq h0)

/-- The positions of the first level, and their rows of ones and zeros. -/
theorem k0 : kernelRun0_A.sl.r_4 (F := Ideal) c arg1 harg1 arg2 harg2 arg3 harg3 arg6 harg6 arg10 arg11 (cV x) (cV q) (cV c0) (cV n) = cP fun p => K (x p) c0 := by
  rw [kernelRun0_A.sl.r_4, kernelRun0_A.sl.r_3, p13, d0 (hq := hq) (h0 := h0), first_val]; rfl
theorem oh0 : kernelRun0_A.sl.r_6 (F := Ideal) c arg1 harg1 arg2 harg2 arg3 harg3 arg6 harg6 arg10 arg11 (cV x) (cV q) (cV c0) (cV n) = cV (oh fun p => K (x p) c0) := by
  rw [kernelRun0_A.sl.r_6, kernelRun0_A.sl.r_3, p15, d0 (hq := hq) (h0 := h0), first_val, hot_val]; rfl
/-- The least distances of the first level. -/
theorem m0 : kernelRun0_A.sl.r_5 (F := Ideal) c arg1 harg1 arg2 harg2 arg3 harg3 arg6 harg6 arg10 arg11 (cV x) (cV q) (cV c0) (cV n) = cW fun p => M (x p) c0 := by
  rw [kernelRun0_A.sl.r_5, kernelRun0_A.sl.r_2, p11, p4, d0 (hq := hq) (h0 := h0), least_val, k0_pay14, addW_val]
  simp only [zero_add]; rfl

omit hq h0 in
/-- What the first level's gathers read of the residuals: a tile not yet stored into. -/
theorem t0 : kernelRun0_A.sl.v97 (F := Ideal) c arg1 harg1 arg10 (cV x) = cV (cols 0 (by omega) x) := by rw [kernelRun0_A.sl.v97, rc, s0, ld_cols _ _ _ (by omega)]
omit hq h0 in
theorem t1 : kernelRun0_A.sl.v121 (F := Ideal) c arg1 harg1 arg2 harg2 arg3 harg3 arg6 harg6 arg10 arg11 (cV x) (cV q) (cV c0) (cV n) = cV (cols 256 (by omega) x) := by
  rw [kernelRun0_A.sl.v121, kernelRun0_A.sl.HS0_2, View.readCov_skip _ _ _ _ _ (by decide), rc, s0, ld_cols _ _ _ (by omega)]
omit hq h0 in
theorem t2 : kernelRun0_A.sl.v145 (F := Ideal) c arg1 harg1 arg2 harg2 arg3 harg3 arg6 harg6 arg10 arg11 (cV x) (cV q) (cV c0) (cV n) = cV (cols 512 (by omega) x) := by
  rw [kernelRun0_A.sl.v145, kernelRun0_A.sl.HS0_3, kernelRun0_A.sl.HS0_2, View.readCov_skip _ _ _ _ _ (by decide), View.readCov_skip _ _ _ _ _ (by decide),
    rc, s0, ld_cols _ _ _ (by omega)]
omit hq h0 in
theorem t3 : kernelRun0_A.sl.v169 (F := Ideal) c arg1 harg1 arg2 harg2 arg3 harg3 arg6 harg6 arg10 arg11 (cV x) (cV q) (cV c0) (cV n) = cV (cols 768 (by omega) x) := by
  rw [kernelRun0_A.sl.v169, kernelRun0_A.sl.HS0_4, kernelRun0_A.sl.HS0_3, kernelRun0_A.sl.HS0_2, View.readCov_skip _ _ _ _ _ (by decide),
    View.readCov_skip _ _ _ _ _ (by decide), View.readCov_skip _ _ _ _ _ (by decide), rc, s0, ld_cols _ _ _ (by omega)]

/-- After the first level the output holds the codes, -/
theorem o1 : View.canon (kernelRun0_A.sl.H6_4 (F := Ideal) c arg1 harg1 arg2 harg2 arg3 harg3 arg6 harg6 arg10 arg11 (cV x) (cV q) (cV c0) (cV n)) = cV fun p => Q (x p) c0 := by
  rw [kernelRun0_A.sl.H6_4]
  refine tiles _ _ ?_ ?_ ?_ ?_ <;>
  simp only [kernelRun0_A.sl.r_3, kernelRun0_A.sl.r_7, kernelRun0_A.sl.r_8, kernelRun0_A.sl.r_9, kernelRun0_A.sl.cst_56,
    p16, p22, p24, p26, rd, d0 (hq := hq) (h0 := h0), first_val, hot_val, oh0 (hq := hq) (h0 := h0), t0, t1, t2, t3] <;>
  (rw [ld_colsB _ _ _ (by omega)]; exact code_tile _ _ _ _ _)
/-- and the residuals are the rows less the codes. -/
theorem s1 : View.canon (kernelRun0_A.sl.HS0_5 (F := Ideal) c arg1 harg1 arg2 harg2 arg3 harg3 arg6 harg6 arg10 arg11 (cV x) (cV q) (cV c0) (cV n)) = cV fun p => R (x p) c0 := by
  rw [kernelRun0_A.sl.HS0_5, kernelRun0_A.sl.HS0_4, kernelRun0_A.sl.HS0_3, kernelRun0_A.sl.HS0_2]
  refine tiles _ _ ?_ ?_ ?_ ?_ <;>
  simp only [kernelRun0_A.sl.r_3, kernelRun0_A.sl.r_7, kernelRun0_A.sl.r_8, kernelRun0_A.sl.r_9, kernelRun0_A.sl.cst_56,
    p17, p23, p25, p27, rd, d0 (hq := hq) (h0 := h0), first_val, hot_val, oh0 (hq := hq) (h0 := h0), t0, t1, t2, t3] <;>
  (rw [ld_colsB _ _ _ (by omega), code_tile, sub_tile]; rfl)

theorem v177 : kernelRun0_A.sl.v177 (F := Ideal) c arg1 harg1 arg2 harg2 arg3 harg3 arg6 harg6 arg10 arg11 (cV x) (cV q) (cV c0) (cV n) = cV fun p => R (x p) c0 := by rw [kernelRun0_A.sl.v177, rc, s1 (hq := hq) (h0 := h0), ld_all]

/-! ## The second level -/

include h1

/-- The distances of the second level. -/
theorem d1 : kernelRun0_A.sl.v237 (F := Ideal) c arg1 harg1 arg2 harg2 arg3 harg3 arg4 harg4 arg6 harg6 arg10 arg11 (cV x) (cV q) (cV c0) (cV c1) (cV n) = cV fun p => D (R (x p) c0) c1 := by
  rw [kernelRun0_A.sl.v237, rc, ld_all, kernelRun0_A.sl.HS1_8]
  refine tiles _ _ ?_ ?_ ?_ ?_ <;>
  simp only [kernelRun0_A.sl.r_12, kernelRun0_A.sl.r_11, kernelRun0_A.sl.r_10, p28, p30, p31, p32, p34, v177 (hq := hq) (h0 := h0), sq_val, rd] <;>
  (rw [ld_rows _ _ _ (by omega), ld_line _ _ _ _ (by omega) (by omega)]; exact dist_tile _ _ _ _ _ _ _ (fun _ => rfl) h1)
/-- The positions of the second level, their rows of ones and zeros, and the least distances added up so far. -/
theorem k1 : kernelRun0_A.sl.r_13 (F := Ideal) c arg1 harg1 arg2 harg2 arg3 harg3 arg4 harg4 arg6 harg6 arg10 arg11 (cV x) (cV q) (cV c0) (cV c1) (cV n) = cP fun p => K (R (x p) c0) c1 := by
  rw [kernelRun0_A.sl.r_13, p36, d1 (hq := hq) (h0 := h0) (h1 := h1), first_val]; rfl
theorem oh1 : kernelRun0_A.sl.r_15 (F := Ideal) c arg1 harg1 arg2 harg2 arg3 harg3 arg4 harg4 arg6 harg6 arg10 arg11 (cV x) (cV q) (cV c0) (cV c1) (cV n) = cV (oh fun p => K (R (x p) c0) c1) := by
  rw [kernelRun0_A.sl.r_15, p38, d1 (hq := hq) (h0 := h0) (h1 := h1), first_val, hot_val]; rfl
theorem m1 : kernelRun0_A.sl.r_14 (F := Ideal) c arg1 harg1 arg2 harg2 arg3 harg3 arg4 harg4 arg6 harg6 arg10 arg11 (cV x) (cV q) (cV c0) (cV c1) (cV n) = cW fun p => M (x p) c0 + M (R (x p) c0) c1 := by
  rw [kernelRun0_A.sl.r_14, k0_pay37, p35, d1 (hq := hq) (h0 := h0) (h1 := h1), m0 (hq := hq) (h0 := h0), least_val, addW_val]; rfl

omit h1 in
/-- What the second level's gathers read of the residuals, -/
theorem t4 : kernelRun0_A.sl.v270 (F := Ideal) c arg1 harg1 arg2 harg2 arg3 harg3 arg6 harg6 arg10 arg11 (cV x) (cV q) (cV c0) (cV n) = cV (cols 0 (by omega) fun p => R (x p) c0) := by
  rw [kernelRun0_A.sl.v270, rc, s1 (hq := hq) (h0 := h0), ld_cols _ _ _ (by omega)]
omit h1 in
theorem t5 : kernelRun0_A.sl.v297 (F := Ideal) c arg1 harg1 arg2 harg2 arg3 harg3 arg4 harg4 arg6 harg6 arg10 arg11 (cV x) (cV q) (cV c0) (cV c1) (cV n) = cV (cols 256 (by omega) fun p => R (x p) c0) := by
  rw [kernelRun0_A.sl.v297, kernelRun0_A.sl.HS0_6, View.readCov_skip _ _ _ _ _ (by decide), rc, s1 (hq := hq) (h0 := h0), ld_cols _ _ _ (by omega)]
omit h1 in
theorem t6 : kernelRun0_A.sl.v324 (F := Ideal) c arg1 harg1 arg2 harg2 arg3 harg3 arg4 harg4 arg6 harg6 arg10 arg11 (cV x) (cV q) (cV c0) (cV c1) (cV n) = cV (cols 512 (by omega) fun p => R (x p) c0) := by
  rw [kernelRun0_A.sl.v324, kernelRun0_A.sl.HS0_7, kernelRun0_A.sl.HS0_6, View.readCov_skip _ _ _ _ _ (by decide), View.readCov_skip _ _ _ _ _ (by decide),
    rc, s1 (hq := hq) (h0 := h0), ld_cols _ _ _ (by omega)]
omit h1 in
theorem t7 : kernelRun0_A.sl.v351 (F := Ideal) c arg1 harg1 arg2 harg2 arg3 harg3 arg4 harg4 arg6 harg6 arg10 arg11 (cV x) (cV q) (cV c0) (cV c1) (cV n) = cV (cols 768 (by omega) fun p => R (x p) c0) := by
  rw [kernelRun0_A.sl.v351, kernelRun0_A.sl.HS0_8, kernelRun0_A.sl.HS0_7, kernelRun0_A.sl.HS0_6, View.readCov_skip _ _ _ _ _ (by decide),
    View.readCov_skip _ _ _ _ _ (by decide), View.readCov_skip _ _ _ _ _ (by decide), rc, s1 (hq := hq) (h0 := h0), ld_cols _ _ _ (by omega)]
omit h1 in
/-- and of the output. -/
theorem u4 : kernelRun0_A.sl.v273 (F := Ideal) c arg1 harg1 arg2 harg2 arg3 harg3 arg6 harg6 arg7 arg10 arg11 (cV x) (cV q) (cV c0) (cV n) = cV (cols 0 (by omega) fun p => Q (x p) c0) := by
  rw [kernelRun0_A.sl.v273, rc, o1 (hq := hq) (h0 := h0), ld_cols _ _ _ (by omega)]
omit h1 in
theorem u5 : kernelRun0_A.sl.v300 (F := Ideal) c arg1 harg1 arg2 harg2 arg3 harg3 arg4 harg4 arg6 harg6 arg7 arg10 arg11 (cV x) (cV q) (cV c0) (cV c1) (cV n) = cV (cols 256 (by omega) fun p => Q (x p) c0) := by
  rw [kernelRun0_A.sl.v300, kernelRun0_A.sl.H6_5, View.readCov_skip _ _ _ _ _ (by decide), rc, o1 (hq := hq) (h0 := h0), ld_cols _ _ _ (by omega)]
omit h1 in
theorem u6 : kernelRun0_A.sl.v327 (F := Ideal) c arg1 harg1 arg2 harg2 arg3 harg3 arg4 harg4 arg6 harg6 arg7 arg10 arg11 (cV x) (cV q) (cV c0) (cV c1) (cV n) = cV (cols 512 (by omega) fun p => Q (x p) c0) := by
  rw [kernelRun0_A.sl.v327, kernelRun0_A.sl.H6_6, kernelRun0_A.sl.H6_5, View.readCov_skip _ _ _ _ _ (by decide), View.readCov_skip _ _ _ _ _ (by decide),
    rc, o1 (hq := hq) (h0 := h0), ld_cols _ _ _ (by omega)]
omit h1 in
theorem u7 : kernelRun0_A.sl.v354 (F := Ideal) c arg1 harg1 arg2 harg2 arg3 harg3 arg4 harg4 arg6 harg6 arg7 arg10 arg11 (cV x) (cV q) (cV c0) (cV c1) (cV n) = cV (cols 768 (by omega) fun p => Q (x p) c0) := by
  rw [kernelRun0_A.sl.v354, kernelRun0_A.sl.H6_7, kernelRun0_A.sl.H6_6, kernelRun0_A.sl.H6_5, View.readCov_skip _ _ _ _ _ (by decide),
    View.readCov_skip _ _ _ _ _ (by decide), View.readCov_skip _ _ _ _ _ (by decide), rc, o1 (hq := hq) (h0 := h0), ld_cols _ _ _ (by omega)]

/-- After the second level the output holds the sums of two codes, -/
theorem o2 : View.canon (kernelRun0_A.sl.H6_8 (F := Ideal) c arg1 harg1 arg2 harg2 arg3 harg3 arg4 harg4 arg6 harg6 arg7 arg10 arg11 (cV x) (cV q) (cV c0) (cV c1) (cV n)) = cV fun p j => Q (x p) c0 j + Q (R (x p) c0) c1 j := by
  rw [kernelRun0_A.sl.H6_8, kernelRun0_A.sl.H6_7, kernelRun0_A.sl.H6_6, kernelRun0_A.sl.H6_5]
  refine tiles _ _ ?_ ?_ ?_ ?_ <;>
  simp only [kernelRun0_A.sl.r_16, kernelRun0_A.sl.r_17, kernelRun0_A.sl.r_18, kernelRun0_A.sl.r_19, p39, p40, p43, p47, p49, p50, rd,
    d1 (hq := hq) (h0 := h0) (h1 := h1), first_val, hot_val, oh1 (hq := hq) (h0 := h0) (h1 := h1),
    t4 (hq := hq) (h0 := h0), t5 (hq := hq) (h0 := h0), t6 (hq := hq) (h0 := h0), t7 (hq := hq) (h0 := h0),
    u4 (hq := hq) (h0 := h0), u5 (hq := hq) (h0 := h0), u6 (hq := hq) (h0 := h0), u7 (hq := hq) (h0 := h0)] <;>
  (rw [ld_colsB _ _ _ (by omega), code_tile, add_tile]; rfl)
/-- and the residuals are what two codes leave. -/
theorem s2 : View.canon (kernelRun0_A.sl.HS0_9 (F := Ideal) c arg1 harg1 arg2 harg2 arg3 harg3 arg4 harg4 arg6 harg6 arg10 arg11 (cV x) (cV q) (cV c0) (cV c1) (cV n)) = cV fun p => R (R (x p) c0) c1 := by
  rw [kernelRun0_A.sl.HS0_9, kernelRun0_A.sl.HS0_8, kernelRun0_A.sl.HS0_7, kernelRun0_A.sl.HS0_6]
  refine tiles _ _ ?_ ?_ ?_ ?_ <;>
  simp only [kernelRun0_A.sl.r_16, kernelRun0_A.sl.r_17, kernelRun0_A.sl.r_18, kernelRun0_A.sl.r_19, p39, p41, p44, p48, p49, p51, rd,
    d1 (hq := hq) (h0 := h0) (h1 := h1), first_val, hot_val, oh1 (hq := hq) (h0 := h0) (h1 := h1),
    t4 (hq := hq) (h0 := h0), t5 (hq := hq) (h0 := h0), t6 (hq := hq) (h0 := h0), t7 (hq := hq) (h0 := h0)] <;>
  (rw [ld_colsB _ _ _ (by omega), code_tile, sub_tile]; rfl)
theorem v362 : kernelRun0_A.sl.v362 (F := Ideal) c arg1 harg1 arg2 harg2 arg3 harg3 arg4 harg4 arg6 harg6 arg10 arg11 (cV x) (cV q) (cV c0) (cV c1) (cV n) = cV fun p => R (R (x p) c0) c1 := by rw [kernelRun0_A.sl.v362, rc, s2 (hq := hq) (h0 := h0) (h1 := h1), ld_all]

/-! ## The third level -/

include h2

/-- The distances of the third level. -/
theorem d2 : kernelRun0_A.sl.v422 (F := Ideal) c arg1 harg1 arg2 harg2 arg3 harg3 arg4 harg4 arg5 harg5 arg6 harg6 arg10 arg11 (cV x) (cV q) (cV c0) (cV c1) (cV c2) (cV n) = cV fun p => D (R (R (x p) c0) c1) c2 := by
  rw [kernelRun0_A.sl.v422, rc, ld_all, kernelRun0_A.sl.HS1_12]
  refine tiles _ _ ?_ ?_ ?_ ?_ <;>
  simp only [kernelRun0_A.sl.r_20, kernelRun0_A.sl.r_21, kernelRun0_A.sl.r_22, p52, p53, p56, p57, p58, v362 (hq := hq) (h0 := h0) (h1 := h1), sq_val, rd] <;>
  (rw [ld_rows _ _ _ (by omega), ld_line _ _ _ _ (by omega) (by omega)]; exact dist_tile _ _ _ _ _ _ _ (fun _ => rfl) h2)
/-- The positions of the third level, their rows of ones and zeros, and the least distances of the three levels added up. -/
theorem k2 : kernelRun0_A.sl.r_25 (F := Ideal) c arg1 harg1 arg2 harg2 arg3 harg3 arg4 harg4 arg5 harg5 arg6 harg6 arg10 arg11 (cV x) (cV q) (cV c0) (cV c1) (cV c2) (cV n) = cP fun p => K (R (R (x p) c0) c1) c2 := by
  rw [kernelRun0_A.sl.r_25, kernelRun0_A.sl.r_24, p61, d2 (hq := hq) (h0 := h0) (h1 := h1) (h2 := h2), first_val]; rfl
theorem oh2 : kernelRun0_A.sl.r_27 (F := Ideal) c arg1 harg1 arg2 harg2 arg3 harg3 arg4 harg4 arg5 harg5 arg6 harg6 arg10 arg11 (cV x) (cV q) (cV c0) (cV c1) (cV c2) (cV n) = cV (oh fun p => K (R (R (x p) c0) c1) c2) := by
  rw [kernelRun0_A.sl.r_27, kernelRun0_A.sl.r_24, p63, d2 (hq := hq) (h0 := h0) (h1 := h1) (h2 := h2), first_val, hot_val]; rfl
theorem m2 : k0_pay62 (kernelRun0_A.sl.r_14 (F := Ideal) c arg1 harg1 arg2 harg2 arg3 harg3 arg4 harg4 arg6 harg6 arg10 arg11 (cV x) (cV q) (cV c0) (cV c1) (cV n)) (kernelRun0_A.sl.r_23 (F := Ideal) c arg1 harg1 arg2 harg2 arg3 harg3 arg4 harg4 arg5 harg5 arg6 harg6 arg10 arg11 (cV x) (cV q) (cV c0) (cV c1) (cV c2) (cV n)) = cW fun p => lossRow (x p) ![c0, c1, c2] := by
  rw [kernelRun0_A.sl.r_23, k0_pay62, p59, d2 (hq := hq) (h0 := h0) (h1 := h1) (h2 := h2), m1 (hq := hq) (h0 := h0) (h1 := h1), least_val, addW_val]; rfl

omit h2 in
/-- What the third level's gathers read of the residuals, -/
theorem t8 : kernelRun0_A.sl.v455 (F := Ideal) c arg1 harg1 arg2 harg2 arg3 harg3 arg4 harg4 arg6 harg6 arg10 arg11 (cV x) (cV q) (cV c0) (cV c1) (cV n) = cV (cols 0 (by omega) fun p => R (R (x p) c0) c1) := by
  rw [kernelRun0_A.sl.v455, rc, s2 (hq := hq) (h0 := h0) (h1 := h1), ld_cols _ _ _ (by omega)]
omit h2 in
theorem t9 : kernelRun0_A.sl.v482 (F := Ideal) c arg1 harg1 arg2 harg2 arg3 harg3 arg4 harg4 arg5 harg5 arg6 harg6 arg10 arg11 (cV x) (cV q) (cV c0) (cV c1) (cV c2) (cV n) = cV (cols 256 (by omega) fun p => R (R (x p) c0) c1) := by
  rw [kernelRun0_A.sl.v482, kernelRun0_A.sl.HS0_10, View.readCov_skip _ _ _ _ _ (by decide), rc, s2 (hq := hq) (h0 := h0) (h1 := h1), ld_cols _ _ _ (by omega)]
omit h2 in
theorem t10 : kernelRun0_A.sl.v509 (F := Ideal) c arg1 harg1 arg2 harg2 arg3 harg3 arg4 harg4 arg5 harg5 arg6 harg6 arg10 arg11 (cV x) (cV q) (cV c0) (cV c1) (cV c2) (cV n) = cV (cols 512 (by omega) fun p => R (R (x p) c0) c1) := by
  rw [kernelRun0_A.sl.v509, kernelRun0_A.sl.HS0_11, kernelRun0_A.sl.HS0_10, View.readCov_skip _ _ _ _ _ (by decide), View.readCov_skip _ _ _ _ _ (by decide),
    rc, s2 (hq := hq) (h0 := h0) (h1 := h1), ld_cols _ _ _ (by omega)]
omit h2 in
theorem t11 : kernelRun0_A.sl.v536 (F := Ideal) c arg1 harg1 arg2 harg2 arg3 harg3 arg4 harg4 arg5 harg5 arg6 harg6 arg10 arg11 (cV x) (cV q) (cV c0) (cV c1) (cV c2) (cV n) = cV (cols 768 (by omega) fun p => R (R (x p) c0) c1) := by
  rw [kernelRun0_A.sl.v536, kernelRun0_A.sl.HS0_12, kernelRun0_A.sl.HS0_11, kernelRun0_A.sl.HS0_10, View.readCov_skip _ _ _ _ _ (by decide),
    View.readCov_skip _ _ _ _ _ (by decide), View.readCov_skip _ _ _ _ _ (by decide), rc, s2 (hq := hq) (h0 := h0) (h1 := h1), ld_cols _ _ _ (by omega)]
omit h2 in
/-- and of the output. -/
theorem u8 : kernelRun0_A.sl.v458 (F := Ideal) c arg1 harg1 arg2 harg2 arg3 harg3 arg4 harg4 arg6 harg6 arg7 arg10 arg11 (cV x) (cV q) (cV c0) (cV c1) (cV n) = cV (cols 0 (by omega) fun p j => Q (x p) c0 j + Q (R (x p) c0) c1 j) := by
  rw [kernelRun0_A.sl.v458, rc, o2 (hq := hq) (h0 := h0) (h1 := h1), ld_cols _ _ _ (by omega)]
omit h2 in
theorem u9 : kernelRun0_A.sl.v485 (F := Ideal) c arg1 harg1 arg2 harg2 arg3 harg3 arg4 harg4 arg5 harg5 arg6 harg6 arg7 arg10 arg11 (cV x) (cV q) (cV c0) (cV c1) (cV c2) (cV n) = cV (cols 256 (by omega) fun p j => Q (x p) c0 j + Q (R (x p) c0) c1 j) := by
  rw [kernelRun0_A.sl.v485, kernelRun0_A.sl.H6_9, View.readCov_skip _ _ _ _ _ (by decide), rc, o2 (hq := hq) (h0 := h0) (h1 := h1), ld_cols _ _ _ (by omega)]
omit h2 in
theorem u10 : kernelRun0_A.sl.v512 (F := Ideal) c arg1 harg1 arg2 harg2 arg3 harg3 arg4 harg4 arg5 harg5 arg6 harg6 arg7 arg10 arg11 (cV x) (cV q) (cV c0) (cV c1) (cV c2) (cV n) = cV (cols 512 (by omega) fun p j => Q (x p) c0 j + Q (R (x p) c0) c1 j) := by
  rw [kernelRun0_A.sl.v512, kernelRun0_A.sl.H6_10, kernelRun0_A.sl.H6_9, View.readCov_skip _ _ _ _ _ (by decide), View.readCov_skip _ _ _ _ _ (by decide),
    rc, o2 (hq := hq) (h0 := h0) (h1 := h1), ld_cols _ _ _ (by omega)]
omit h2 in
theorem u11 : kernelRun0_A.sl.v539 (F := Ideal) c arg1 harg1 arg2 harg2 arg3 harg3 arg4 harg4 arg5 harg5 arg6 harg6 arg7 arg10 arg11 (cV x) (cV q) (cV c0) (cV c1) (cV c2) (cV n) = cV (cols 768 (by omega) fun p j => Q (x p) c0 j + Q (R (x p) c0) c1 j) := by
  rw [kernelRun0_A.sl.v539, kernelRun0_A.sl.H6_11, kernelRun0_A.sl.H6_10, kernelRun0_A.sl.H6_9, View.readCov_skip _ _ _ _ _ (by decide),
    View.readCov_skip _ _ _ _ _ (by decide), View.readCov_skip _ _ _ _ _ (by decide), rc, o2 (hq := hq) (h0 := h0) (h1 := h1), ld_cols _ _ _ (by omega)]

/-- The block of the first output: the sums of the three codes. -/
theorem out6 (i : grid0.Coords) : out0_A_6 (F := Ideal) c i arg1 harg1 arg2 harg2 arg3 harg3 arg4 harg4 arg5 harg5 arg6 harg6 arg7 harg7 arg8 harg8 arg9 harg9 arg10 harg10 arg11 harg11
    (cV x) (cV q) (cV c0) (cV c1) (cV c2) (cV n) = cV fun p => out (x p) ![c0, c1, c2] := by
  rw [out0_A_6, View.read_writes_junk_eq_canon]
  dsimp only [kernelRun0_A]
  rw [kernelRun0_A.sl.H6_11, kernelRun0_A.sl.H6_10, kernelRun0_A.sl.H6_9]
  refine tiles _ _ ?_ ?_ ?_ ?_ <;>
  simp only [kernelRun0_A.sl.r_24, kernelRun0_A.sl.r_28, kernelRun0_A.sl.r_29, p65, p68, p70, p71, p74, rd,
    d2 (hq := hq) (h0 := h0) (h1 := h1) (h2 := h2), first_val, hot_val, oh2 (hq := hq) (h0 := h0) (h1 := h1) (h2 := h2),
    t8 (hq := hq) (h0 := h0) (h1 := h1), t9 (hq := hq) (h0 := h0) (h1 := h1), t10 (hq := hq) (h0 := h0) (h1 := h1), t11 (hq := hq) (h0 := h0) (h1 := h1),
    u8 (hq := hq) (h0 := h0) (h1 := h1), u9 (hq := hq) (h0 := h0) (h1 := h1), u10 (hq := hq) (h0 := h0) (h1 := h1), u11 (hq := hq) (h0 := h0) (h1 := h1)] <;>
  (rw [ld_colsB _ _ _ (by omega), code_tile, add_tile]; rfl)

/-- The block of the positions: eight rows, the first three the positions of the three levels. -/
theorem out7 (i : grid0.Coords) : out0_A_7 (F := Ideal) c i arg1 harg1 arg2 harg2 arg3 harg3 arg4 harg4 arg5 harg5 arg6 harg6 arg7 harg7 arg8 harg8 arg9 harg9 arg10 harg10 arg11 harg11
    (cV x) (cV q) (cV c0) (cV c1) (cV c2) (cV n) = fun j => if (j 0).val = 1 then BitVec.ofNat 32 (pos (x (j 1)) ![c0, c1, c2] 1).val
      else if (j 0).val = 2 then BitVec.ofNat 32 (pos (x (j 1)) ![c0, c1, c2] 2).val else BitVec.ofNat 32 (pos (x (j 1)) ![c0, c1, c2] 0).val := by
  rw [out0_A_7, View.read_writes_junk_eq_canon]
  dsimp only [kernelRun0_A]
  refine (View.canon_unit_zero (by decide) _ _).trans ?_
  simp only [kernelRun0_A.sl.r_30, kernelRun0_A.sl.r_31, kernelRun0_A.sl.r_32, kernelRun0_A.sl.r_33, kernelRun0_A.sl.r_34,
    k0 (hq := hq) (h0 := h0), k1 (hq := hq) (h0 := h0) (h1 := h1), k2 (hq := hq) (h0 := h0) (h1 := h1) (h2 := h2)]
  funext j
  idx_vars j
  fin_cases j0 <;> pointwise [k0_pay1, k0_pay76, k0_pay77, k0_pay78, k0_pay79, k0_pay80, cP] <;> rfl

/-- The block of the losses: the rows' losses added up, times the named constant. -/
theorem out8 (i : grid0.Coords) : out0_A_8 (F := Ideal) c i arg1 harg1 arg2 harg2 arg3 harg3 arg4 harg4 arg5 harg5 arg6 harg6 arg7 harg7 arg8 harg8 arg9 harg9 arg10 harg10 arg11 harg11
    (cV x) (cV q) (cV c0) (cV c1) (cV c2) (cV n) = fun _ => (((∑ p, lossRow (x p) ![c0, c1, c2]) * (5 / 100663296) : ℝ) : EReal) := by
  rw [out0_A_8, View.read_writes_junk_eq_canon]
  dsimp only [kernelRun0_A]
  refine (View.canon_unit_zero (by decide) _ _).trans ?_
  rw [kernelRun0_A.sl.r_26, m2 (hq := hq) (h0 := h0) (h1 := h1) (h2 := h2), loss_val]
end Cert.Level
end
-- ==== Proof.Arrays.lean ====
/- What the idealised kernel leaves in its result arrays when its arguments are arrays of reals. -/
module
public import proofs.«01_k».proof.Proof.Body
public import proofs.«01_k».proof.Proof.Gen.KernelIdeal.Run
public import Idealize.ShloMosaic.Lib.Pipeline.ValueKit.Geometry
@[expose] public section
set_option maxRecDepth 16384
noncomputable section
namespace Cert.Arrays
open Cert.KernelIdeal Cert.KernelIdeal.Gen Cert.KernelIdeal.Value Cert.Spec Cert.Level Idealize.ShloMosaic Idealize.ShloMosaic.TcCoe Idealize.ShloMosaic.StableHlo

/-- The squared lengths of an array's rows. -/
def len {a : ℕ} (x : Fin a → Row) : Fin a → ℝ := fun p => ∑ j, x p j * x p j
/-- A squared length, in the extended reals. -/
theorem coe_len {a : ℕ} (x : Fin a → Row) (p : Fin a) : ∑ j, ((x p j : ℝ) : EReal) * ((x p j : ℝ) : EReal) = ((len x p : ℝ) : EReal) := by
  simp only [← EReal.coe_mul]
  exact coe_sum _

variable (m : (ℓ : Loc nD τ sig) → Buf (Elt Ideal) ℓ) (c : Dev nD) (x : Fin 8192 → Row) (c0 c1 c2 : Book)

/-- The three codebooks' squared lengths, and five rows of zeros. -/
def norms : Fin 8 → Row := fun k j => if k = 0 then len c0 j else if k = 1 then len c1 j else if k = 2 then len c2 j else 0

variable (hx : m ((c.tc : Thread nD τ).loc main_arg0) = cV x) (hc0 : m ((c.tc : Thread nD τ).loc main_arg1) = cV c0)
  (hc1 : m ((c.tc : Thread nD τ).loc main_arg2) = cV c1) (hc2 : m ((c.tc : Thread nD τ).loc main_arg3) = cV c2)

/-- Squared lengths as one row. -/
abbrev lenRow (b : Vec Ideal S1024x1024 .f32) : Vec Ideal S1x1024 .f32 :=
  broadcastInDim S1x1024 ![1] bcast_S1024_S1x1024_1
    (Host.reduceAdd (F := Ideal) (mulf (F := Ideal) b b) (constant (F := Ideal) S_ .f32 0x00000000#32) reducesTo_S1024x1024_S1024_d1 h_S_)

include hx in
/-- The squared lengths of the rows, as the kernel finds them. -/
theorem V_len : V m c main_v15 = cV fun p (_ : Fin 128) => len x p := by
  show after (List.flatten [hostOps0]) _ _ = _
  simp only [hostOps0, List.flatten_cons, List.flatten_nil, List.append_nil, List.cons_append, List.nil_append]
  after_results
  rw [show m (c, Proc.tc.devRef main_arg0) = cV x from hx]
  funext i
  idx_vars i
  pointwise [cV]
  exact coe_len x _
/-- The host's array of squared lengths. -/
theorem V_norms' : V m c main_v11 = concatenate S8x1024 0 [⟨S3x1024, concatenate S3x1024 0 [⟨S1x1024, lenRow (m ((c.tc : Thread nD τ).loc main_arg1))⟩,
      ⟨S1x1024, lenRow (m ((c.tc : Thread nD τ).loc main_arg2))⟩, ⟨S1x1024, lenRow (m ((c.tc : Thread nD τ).loc main_arg3))⟩] concatenates_S1x1024_S1x1024_S1x1024_S3x1024_d0⟩,
    ⟨S5x1024, broadcastInDim S5x1024 ![] bcast_S_S5x1024 (constant (F := Ideal) S_ .f32 0x00000000#32)⟩] concatenates_S3x1024_S5x1024_S8x1024_d0 := by
  show after (List.flatten [hostOps0]) _ _ = _
  simp only [hostOps0, List.flatten_cons, List.flatten_nil, List.append_nil, List.cons_append, List.nil_append]
  after_results
  rfl
include hc0 hc1 hc2 in
/-- The squared lengths of the codes, as the kernel finds them. -/
theorem V_norms : V m c main_v11 = cV (norms c0 c1 c2) := by
  rw [V_norms', hc0, hc1, hc2]
  simp only [lenRow]
  funext i
  idx_vars i
  fin_cases i0 <;> pointwise [cW, cV, norms] <;> first | exact coe_len _ _ | exact EReal.coe_zero.symm

/-! ## The blocks -/

/-- Which block each window is at, at each point. -/
theorem at0 : ∀ t : Fin cfg0.N, win0_0.index t = ![t.val, 0] := by decide +kernel
theorem at1 : ∀ t : Fin cfg0.N, win0_1.index t = ![t.val, 0] := by decide +kernel
theorem at2 : ∀ t : Fin cfg0.N, win0_2.index t = ![0, 0] := by decide +kernel
theorem at3 : ∀ t : Fin cfg0.N, win0_3.index t = ![0, 0] := by decide +kernel
theorem at4 : ∀ t : Fin cfg0.N, win0_4.index t = ![0, 0] := by decide +kernel
theorem at5 : ∀ t : Fin cfg0.N, win0_5.index t = ![0, 0] := by decide +kernel
theorem at6 : ∀ t : Fin cfg0.N, win0_6.index t = ![t.val, 0] := by decide +kernel
theorem at7 : ∀ t : Fin cfg0.N, win0_7.index t = ![0, t.val] := by decide +kernel
theorem at8 : ∀ t : Fin cfg0.N, win0_8.index t = ![t.val, 0, 0] := by decide +kernel

/-- The array's row that is row `p` of block `t`. -/
def place (t : Fin cfg0.N) (p : Fin 256) : Fin 8192 := ⟨t.val * 256 + p.val, by have := t.isLt; have : cfg0.N = 32 := N_0; omega⟩

/-- A sum over all rows, block by block. -/
theorem sum_place (f : Fin 8192 → ℝ) : ∑ t : Fin 32, ∑ p, f (place t p) = ∑ i, f i :=
  (Fintype.sum_prod_type' fun (t : Fin 32) p => f (place t p)).symm.trans
    (Fintype.sum_equiv (finProdFinEquiv (m := 32) (n := 256)) _ f fun a => congrArg f (Fin.ext (by
      show a.1.val * 256 + a.2.val = a.2.val + 256 * a.1.val
      omega)))

include hx in
/-- The kernel finds, at each point, its rows and their squared lengths, -/
theorem blk0 (t : Fin cfg0.N) : iblk m c 0 t = cV fun p => x (place t p) := by
  funext j
  idx_vars j
  blk_simp [iblk]
  rw [V_main_arg0, hx, show (win0_0.blk t).view.emb (ix2 j0 j1) = ix2 (place t j0) j1 by blk_ext [at0, place]]
  rfl
include hx in
theorem blk1 (t : Fin cfg0.N) : iblk m c 1 t = cV fun p _ => len x (place t p) := by
  funext j
  idx_vars j
  blk_simp [iblk]
  rw [V_len m c x hx, show (win0_1.blk t).view.emb (ix2 j0 j1) = ix2 (place t j0) j1 by blk_ext [at1, place]]
  rfl
include hc0 in
/-- the codebooks, -/
theorem blk2 (t : Fin cfg0.N) : iblk m c 2 t = cV c0 := by
  funext j
  idx_vars j
  blk_simp [iblk]
  rw [V_main_arg1, hc0, show (win0_2.blk t).view.emb (ix2 j0 j1) = ix2 j0 j1 by blk_ext [at2]]
include hc1 in
theorem blk3 (t : Fin cfg0.N) : iblk m c 3 t = cV c1 := by
  funext j
  idx_vars j
  blk_simp [iblk]
  rw [V_main_arg2, hc1, show (win0_3.blk t).view.emb (ix2 j0 j1) = ix2 j0 j1 by blk_ext [at3]]
include hc2 in
theorem blk4 (t : Fin cfg0.N) : iblk m c 4 t = cV c2 := by
  funext j
  idx_vars j
  blk_simp [iblk]
  rw [V_main_arg3, hc2, show (win0_4.blk t).view.emb (ix2 j0 j1) = ix2 j0 j1 by blk_ext [at4]]
include hc0 hc1 hc2 in
/-- and the codes' squared lengths. -/
theorem blk5 (t : Fin cfg0.N) : iblk m c 5 t = cV (norms c0 c1 c2) := by
  funext j
  idx_vars j
  blk_simp [iblk]
  rw [V_norms m c c0 c1 c2 hc0 hc1 hc2, show (win0_5.blk t).view.emb (ix2 j0 j1) = ix2 j0 j1 by blk_ext [at5]]

include hx hc0 hc1 hc2

/-- What the body leaves at each point. -/
theorem outs (t : Fin cfg0.N) : outsAt0 m c t = (cV fun p => out (x (place t p)) ![c0, c1, c2],
    fun j => if (j 0).val = 1 then BitVec.ofNat 32 (pos (x (place t (j 1))) ![c0, c1, c2] 1).val
      else if (j 0).val = 2 then BitVec.ofNat 32 (pos (x (place t (j 1))) ![c0, c1, c2] 2).val else BitVec.ofNat 32 (pos (x (place t (j 1))) ![c0, c1, c2] 0).val,
    fun _ => (((∑ p, lossRow (x (place t p)) ![c0, c1, c2]) * (5 / 100663296) : ℝ) : EReal)) := by
  unfold outsAt0
  rw [blk0 m c x hx, blk1 m c x hx, blk2 m c c0 hc0, blk3 m c c1 hc1, blk4 m c c2 hc2, blk5 m c c0 c1 c2 hc0 hc1 hc2]
  rw [out6 (hq := fun _ => rfl) (h0 := fun _ => rfl) (h1 := fun _ => rfl) (h2 := fun _ => rfl),
    out7 (hq := fun _ => rfl) (h0 := fun _ => rfl) (h1 := fun _ => rfl) (h2 := fun _ => rfl),
    out8 (hq := fun _ => rfl) (h0 := fun _ => rfl) (h1 := fun _ => rfl) (h2 := fun _ => rfl)]

/-- The first output array: the sums of codes. -/
theorem reg0 : reg_main_v16_0 m c = cV fun p => out (x p) ![c0, c1, c2] := by
  refine (dats m 0 c).arrAt_eq_of_covers 6 _ (by decide +kernel) fun t _ y => ?_
  blk_simp
  rw [after0_6, outs m c x c0 c1 c2 hx hc0 hc1 hc2]
  idx_vars y
  rw [show (win0_6.blk t).view.emb (ix2 y0 y1) = ix2 (place t y0) y1 by blk_ext [at6, place]]
  rfl
/-- The second: the positions. -/
theorem reg1 : reg_main_v16_1 m c = fun j => if (j 0).val = 1 then BitVec.ofNat 32 (pos (x (j 1)) ![c0, c1, c2] 1).val
      else if (j 0).val = 2 then BitVec.ofNat 32 (pos (x (j 1)) ![c0, c1, c2] 2).val else BitVec.ofNat 32 (pos (x (j 1)) ![c0, c1, c2] 0).val := by
  refine (dats m 0 c).arrAt_eq_of_covers 7 _ (by decide +kernel) fun t _ y => ?_
  blk_simp
  rw [after0_7, outs m c x c0 c1 c2 hx hc0 hc1 hc2]
  idx_vars y
  rw [show (win0_7.blk t).view.emb (ix2 y0 y1) = ix2 y0 (place t y1) by blk_ext [at7, place]]
  simp only [at7, Matrix.cons_val_zero, Nat.zero_mul, Nat.zero_add]
  rfl
/-- The third: the blocks' losses. -/
theorem reg2 : reg_main_v16_2 m c = fun j => (((∑ p, lossRow (x (place (j 0) p)) ![c0, c1, c2]) * (5 / 100663296) : ℝ) : EReal) := by
  refine (dats m 0 c).arrAt_eq_of_covers 8 _ (by decide +kernel) fun t _ y => ?_
  blk_simp
  rw [after0_8, outs m c x c0 c1 c2 hx hc0 hc1 hc2]
  idx_vars y
  rw [show (win0_8.blk t).view.emb (ix3 y0 y1 y2) = ix3 t y1 y2 by blk_ext [at8]]
  rfl

/-- The loss the host adds up is the loss. -/
theorem loss_eq : Host.reduceAdd (F := Ideal) (shapeCast _ (extractStridedSlice S32x1x1 ![0, 0, 0] (reg_main_v16_2 m c) slices_S32x1x128_S32x1x1_0_0_0) shapeCasts_S32x1x1_S32)
    (constant (F := Ideal) S_ .f32 0x00000000#32) reducesTo_S32_S_d0 h_S_ = fun _ => ((loss x ![c0, c1, c2] : ℝ) : EReal) := by
  rw [reg2 m c x c0 c1 c2 hx hc0 hc1 hc2]
  funext i
  pointwise []
  rw [coe_sum, ← Finset.sum_mul, sum_place fun p => lossRow (x p) ![c0, c1, c2]]
  rfl
/-- The positions, a row for each row of the argument. -/
theorem pos_eq : transpose S8192x3 [1, 0] (extractStridedSlice S3x8192 ![0, 0] (reg_main_v16_1 m c) slices_S8x8192_S3x8192_0_0) transposes_S3x8192_S8192x3_1_0
    = fun j => BitVec.ofNat 32 (pos (x (j 0)) ![c0, c1, c2] (j 1)).val := by
  rw [reg1 m c x c0 c1 c2 hx hc0 hc1 hc2]
  funext i
  idx_vars i
  fin_cases i1 <;> pointwise [] <;> rfl
end Cert.Arrays
end
-- ==== Proof.RefArg.lean ====
/- The reference's least positions, on arrays of reals. -/
module
public import proofs.«01_k».proof.Proof.RefOps
public import proofs.«01_k».proof.Proof.Spec
public import Idealize.ShloMosaic.PureOps.Ideal.Laws
@[expose] public section
noncomputable section
namespace Cert.RefRun
open Cert.ReferenceIdeal Cert.ReferenceIdeal.Gen Cert.Spec Idealize.ShloMosaic Idealize.ShloMosaic.TcCoe

variable {n : ℕ}

/-- The least pair's reducer, on pairs of a real and a position: the lesser real, of equal ones the earlier position. -/
theorem red_val (hn : n ≤ 2147483648) (d : Fin n → ℝ) (a b : Fin n) :
    reducer_argmin_f32_i32 (F := Ideal) (((d a : ℝ) : EReal), BitVec.ofNat 32 a.val) (((d b : ℝ) : EReal), BitVec.ofNat 32 b.val)
      = if d a < d b ∨ (d a = d b ∧ a < b) then (((d a : ℝ) : EReal), BitVec.ofNat 32 a.val) else (((d b : ℝ) : EReal), BitVec.ofNat 32 b.val) := by
  have hs : (BitVec.ofNat 32 a.val).slt (BitVec.ofNat 32 b.val) = decide (a < b) := by
    have := a.isLt; have := b.isLt
    rw [BitVec.slt_eq_decide, BitVec.toInt_eq_toNat_of_lt (by rw [BitVec.toNat_ofNat]; omega), BitVec.toInt_eq_toNat_of_lt (by rw [BitVec.toNat_ofNat]; omega),
      BitVec.toNat_ofNat, BitVec.toNat_ofNat, Nat.mod_eq_of_lt (by omega), Nat.mod_eq_of_lt (by omega)]
    exact decide_eq_decide.2 Nat.cast_lt
  have h1 : ∀ x : BitVec 1, 1#1 ||| x = 1#1 := by decide
  simp only [reducer_argmin_f32_i32, Ideal.cmpf_def]
  rcases lt_trichotomy (d a) (d b) with h | h | h
  · simp [Ideal.cmp, h, Scalar.select, IntOp.ori, IntOp.andi, h1]
  · simp [Ideal.cmp, h, Scalar.select, IntOp.ori, IntOp.andi, IntOp.cmpi, hs]
    by_cases h' : a < b <;> simp [h']
  · simp [Ideal.cmp, h.not_gt, h.ne', Scalar.select, IntOp.ori, IntOp.andi, h.le]
/-- The first pair replaces the initial one. -/
theorem red_top (d : Fin n → ℝ) (b : Fin n) (w : BitVec 32) :
    reducer_argmin_f32_i32 (F := Ideal) ((⊤ : EReal), w) (((d b : ℝ) : EReal), BitVec.ofNat 32 b.val) = (((d b : ℝ) : EReal), BitVec.ofNat 32 b.val) := by
  simp [reducer_argmin_f32_i32, Ideal.cmpf_def, Ideal.cmp, Scalar.select, IntOp.ori, IntOp.andi]
/-- Folding the reducer over a list of pairs leaves the least. -/
theorem fold_arg (hn : n ≤ 2147483648) (d : Fin n → ℝ) : ∀ (L : List (Fin n)) (a : Fin n),
    ∃ k ∈ a :: L, (L.map fun k => (((d k : ℝ) : EReal), BitVec.ofNat 32 k.val)).foldl (reducer_argmin_f32_i32 (F := Ideal)) (((d a : ℝ) : EReal), BitVec.ofNat 32 a.val)
        = (((d k : ℝ) : EReal), BitVec.ofNat 32 k.val)
      ∧ ∀ l ∈ a :: L, d k < d l ∨ (d k = d l ∧ k ≤ l)
  | [], a => ⟨a, by simp, rfl, by simp⟩
  | b :: L, a => by
    rw [List.map_cons, List.foldl_cons, red_val hn]
    by_cases h : d a < d b ∨ (d a = d b ∧ a < b)
    · rw [if_pos h]
      obtain ⟨k, hk, e, hl⟩ := fold_arg hn d L a
      refine ⟨k, by simp at hk ⊢; tauto, e, fun l h' => ?_⟩
      rcases List.mem_cons.1 h' with rfl | h'
      · exact hl _ (by simp)
      rcases List.mem_cons.1 h' with rfl | h'
      · rcases h with h | ⟨h, h2⟩ <;> rcases hl a (by simp) with h3 | ⟨h3, h4⟩
        · exact .inl (h3.trans h)
        · exact .inl (h3 ▸ h)
        · exact .inl (h ▸ h3)
        · exact .inr ⟨h3.trans h, h4.trans h2.le⟩
      · exact hl _ (by simp [h'])
    · rw [if_neg h]
      obtain ⟨k, hk, e, hl⟩ := fold_arg hn d L b
      refine ⟨k, by simp at hk ⊢; tauto, e, fun l h' => ?_⟩
      rcases List.mem_cons.1 h' with rfl | h'
      · rw [not_or, not_and] at h
        obtain ⟨h, h2⟩ := h
        rcases hl b (by simp) with h3 | ⟨h3, h4⟩
        · exact .inl (h3.trans_le (not_lt.1 h))
        · rcases (not_lt.1 h).lt_or_eq with h5 | h5
          · exact .inl (h3 ▸ h5)
          · exact .inr ⟨h3.trans h5, h4.trans (not_lt.1 (h2 h5.symm))⟩
      · exact hl _ h'
/-- Over a list of all positions that is the least position of the least value. -/
theorem fold_am [NeZero n] (hn : n ≤ 2147483648) (d : Fin n → ℝ) (L : List (Fin n)) (hL : ∀ k, k ∈ L) :
    ((L.map fun k => (((d k : ℝ) : EReal), BitVec.ofNat 32 k.val)).foldl (reducer_argmin_f32_i32 (F := Ideal)) ((⊤ : EReal), 0#32)).2 = BitVec.ofNat 32 (am d).val := by
  cases L with
  | nil => exact absurd (hL 0) (by simp)
  | cons a L =>
    rw [List.map_cons, List.foldl_cons, red_top]
    obtain ⟨k, -, e, hl⟩ := fold_arg hn d L a
    rw [e]
    show BitVec.ofNat 32 k.val = _
    rw [eq_am d k (fun l => (hl l (hL l)).elim le_of_lt fun h => h.1.le)
      fun l hlt => (hl l (hL l)).resolve_right fun h => absurd h.2 (not_le.2 hlt)]

/-- The reference's positions of the least values along the second axis. -/
theorem arg_val {m : ℕ} [NeZero n] (hn : n ≤ 2147483648) (d : Fin m → Fin n → ℝ) (h : Shape.ReducesTo ⟨2, ![m, n]⟩ [1] ⟨1, ![m]⟩) {u : Shape} (hu : 0 < u.numel)
    (ix : u.Idx → EReal) (hx : ∀ i, ix i = ⊤) (iy : u.Idx → BitVec 32) (hy : ∀ i, iy i = 0#32) (y : (⟨2, ![m, n]⟩ : Shape).Idx → BitVec 32)
    (hi : ∀ i, y i = BitVec.ofNat 32 (i 1).val) (j : Fin m) :
    (Host.argReduce (F := Ideal) (φ := .f32) (reducer_argmin_f32_i32 (F := Ideal)) (cV d) y ix iy h hu (ix1 j)).2 = BitVec.ofNat 32 (am (d j)).val := by
  have hd : ∀ i : (⟨2, ![m, n]⟩ : Shape).Idx, h.drop i = ix1 j ↔ i 0 = j := by
    intro i
    have e : (h.drop i 0).val = (i 0).val := h.drop_apply_val_of_eq i 0 0 Nat.one_pos rfl
    constructor
    · intro e'
      rw [e'] at e
      exact (Fin.ext e).symm
    · intro e'
      funext k
      fin_cases k
      exact Fin.ext (e.trans (congrArg Fin.val e'))
  rw [Ideal.argReduce_eq_reduce2, Host.reduce2_eq_foldl_fiber, hx, hy, Host.argReduceFiber]
  rw [← fold_am hn (d j) (((List.finRange (Shape.numel ⟨2, ![m, n]⟩)).filter fun k => h.drop ((Shape.rowMajor ⟨2, ![m, n]⟩).symm k) = ix1 j).map
    fun k => ((Shape.rowMajor ⟨2, ![m, n]⟩).symm k 1 : Fin n))]
  · refine congrArg Prod.snd (congrArg (List.foldl _ _) ((List.map_congr_left fun k hk => ?_).trans List.map_map.symm))
    have hk : (Shape.rowMajor ⟨2, ![m, n]⟩).symm k 0 = j := (hd _).1 (by simpa using (List.mem_filter.1 hk).2)
    show (cV d _, y _) = _
    rw [hi, cV]
    dsimp only
    rw [hk]
    rfl
  · intro k
    refine List.mem_map.2 ⟨Shape.rowMajor ⟨2, ![m, n]⟩ (ix2 j k), List.mem_filter.2 ⟨List.mem_finRange _, ?_⟩, ?_⟩
    · rw [Equiv.symm_apply_apply]
      exact decide_eq_true ((hd _).2 rfl)
    · rw [Equiv.symm_apply_apply]
      rfl
end Cert.RefRun
end
-- ==== Proof.RefValue.lean ====
/- What the reference computes on arrays of reals. -/
module
public import proofs.«01_k».proof.Proof.RefArg
public import proofs.«01_k».proof.Proof.RefVals
public import Idealize.ShloMosaic.Lib.Routing.Ops
public import Idealize.ShloMosaic.Lib.Routing.OpsPair
@[expose] public section
set_option maxRecDepth 16384
noncomputable section
namespace Cert.RefRun
open Cert.ReferenceIdeal Cert.ReferenceIdeal.Gen Cert.Spec Idealize.ShloMosaic Idealize.ShloMosaic.TcCoe

/-- What the positions are, spelled out. -/
theorem amin_eq (d : TX Ideal) : amin (F := Ideal) d = fun j => (Host.argReduce (F := Ideal) (φ := .f32) (reducer_argmin_f32_i32 (F := Ideal)) d (iotaInDim S8192x1024 32 1) (constant (F := Ideal) S_ .f32 0x7F800000#32) (constantI S_ 32 0#32)
      reducesTo_S8192x1024_S8192_d1 h_S_ j).2 := by
  delta amin
  with_reducible rfl
/-- The positions of the least values. -/
theorem amin_val (d : Fin 8192 → Fin 1024 → ℝ) : amin (F := Ideal) (cV d) = cP fun p => am (d p) := by
  rw [amin_eq]
  funext j
  idx_vars j
  refine (arg_val (m := 8192) (n := 1024) (by norm_num) d _ _ _ (fun _ => ?_) _ (fun _ => ?_) _ (fun _ => ?_) j0).trans ?_
  · simp [constant, Ideal.ofBits_def, Ideal.ofBits, Ideal.ieee]
  · rfl
  · rfl
  · rfl

/-- The constants: two, a quarter, three and the number of elements. -/
theorem two : Ideal.ofBits .f32 1073741824#32 = ((2 : ℝ) : EReal) := by
  simp [Ideal.ofBits, Ideal.ieee, -EReal.coe_mul]; norm_num
theorem quarter : Ideal.ofBits .f32 1048576000#32 = ((1 / 4 : ℝ) : EReal) := by
  simp [Ideal.ofBits, Ideal.ieee, -EReal.coe_mul]; norm_num
theorem three : Ideal.ofBits .f32 1077936128#32 = ((3 : ℝ) : EReal) := by
  simp [Ideal.ofBits, Ideal.ieee, -EReal.coe_mul]; norm_num
theorem size : Ideal.ofBits .f32 1258291200#32 = ((8388608 : ℝ) : EReal) := by
  simp [Ideal.ofBits, Ideal.ieee, -EReal.coe_mul]

/-- A level's distances. -/
theorem dist_val (r : Fin 8192 → Row) (b : Book) : dist (F := Ideal) (cV r) (cV b) = cV fun p => D (r p) b := by
  funext j
  idx_vars j
  pointwise [dist, cV]
  simp only [two, ← EReal.coe_mul, coe_sum, ← EReal.coe_sub, ← EReal.coe_add]
  simp only [D, Finset.mul_sum, mul_assoc]
/-- The column of positions is the positions. -/
theorem col_val (k : Fin 8192 → Fin 1024) (p : Fin 8192) : col (F := Ideal) (cP k) (ix2 p 0) = BitVec.ofNat 32 (k p).val := by
  pointwise [col, cP]
  refine Routing.wrap_of_lt _ _ ?_
  have := (k p).isLt
  rw [BitVec.toNat_ofNat]
  omega
/-- Each is inside the codebook. -/
theorem inside_val (k : Fin 8192 → Fin 1024) : inside (F := Ideal) (cP k) = fun _ => 1#1 := by
  funext j
  idx_vars j
  pointwise [inside, col_val]
  have e : ∀ a : Fin 1024, IntOp.andi (IntOp.cmpi .sge (BitVec.ofNat 32 a.val) 0#32) (IntOp.cmpi .sle (BitVec.ofNat 32 a.val) 1023#32) = 1#1 := by decide +kernel
  rw [Finset.univ_unique, Finset.fold_singleton, show (default : Fin 1) = 0 from rfl, col_val, e]
  rfl
/-- The rows taken are the codes at the positions. -/
theorem rows_val (b : Book) (k : Fin 8192 → Fin 1024) : rows (F := Ideal) (cV b) (cP k) = cV fun p => b (k p) := by
  funext j
  idx_vars j
  pointwise [rows, inside_val]
  exact Routing.gather_row _ rfl rfl rfl rfl rfl (cV b) (col (F := Ideal) (cP k)) j0 j1 (k j0) (col_val k j0) (by norm_num)
/-- The residual plus the difference to its code is the code. -/
theorem step_val (q r : Fin 8192 → Row) : step (F := Ideal) (cV q) (cV r) = cV q := by
  funext j
  idx_vars j
  pointwise [step, cV]
  rw [← EReal.coe_sub, ← EReal.coe_add, add_sub_cancel]
theorem rest_val (q r : Fin 8192 → Row) : subf (F := Ideal) (s := S8192x1024) (φ := .f32) (cV r) (cV q) = cV fun p j => r p j - q p j := rfl
theorem sum_val (q r : Fin 8192 → Row) : addf (F := Ideal) (s := S8192x1024) (φ := .f32) (cV r) (cV q) = cV fun p j => r p j + q p j := rfl
/-- The mean of the squared differences. -/
theorem msq_val (q r : Fin 8192 → Row) : msq (F := Ideal) (cV q) (cV r) = fun _ => (((∑ p, ∑ j, (q p j - r p j) * (q p j - r p j)) / 8388608 : ℝ) : EReal) := by
  funext j
  pointwise [msq, cV]
  simp only [size, ← EReal.coe_sub, ← EReal.coe_mul, coe_sum]
  rw [Ideal.div_coe (by norm_num), ← EReal.coe_mul, mul_one_div]
/-- A level's loss. -/
theorem loss_val (q r : Fin 8192 → Row) : loss (F := Ideal) (cV q) (cV r)
    = fun _ => (((∑ p, ∑ j, (q p j - r p j) * (q p j - r p j)) / 8388608 * (5 / 4) : ℝ) : EReal) := by
  funext j
  pointwise [loss, msq_val]
  rw [quarter, ← EReal.coe_mul, ← EReal.coe_add]
  congr 1
  ring
/-- The mean of three losses. -/
theorem mean_val (a b c : ℝ) : lossOf (F := Ideal) (fun _ => (a : EReal)) (fun _ => (b : EReal)) (fun _ => (c : EReal)) = fun _ => (((a + b + c) / 3 : ℝ) : EReal) := by
  funext j
  pointwise [lossOf, lossCat]
  rw [three, Fin.sum_univ_three]
  simp only [Fin.val_zero, Fin.val_one, Fin.val_two]
  norm_num
  rw [← EReal.coe_add, ← EReal.coe_add]
  rw [Ideal.div_coe (by norm_num), ← EReal.coe_mul, mul_one_div]
/-- The three levels' positions side by side. -/
theorem idx_val (a b c : Fin 8192 → Fin 1024) : idxOf (F := Ideal) (cP a) (cP b) (cP c) = fun j => BitVec.ofNat 32 ((![a, b, c] (j 1)) (j 0)).val := by
  funext j
  idx_vars j
  pointwise [idxOf, idxCat]
  fin_cases j1 <;> rfl

/-- A level's positions, codes and residual. -/
theorem pos_val (r : Fin 8192 → Row) (b : Book) : pos (F := Ideal) (cV r) (cV b) = cP fun p => K (r p) b := by
  rw [pos, dist_val, amin_val]; rfl
theorem code_val (r : Fin 8192 → Row) (b : Book) : code (F := Ideal) (cV r) (cV b) = cV fun p => Q (r p) b := by
  rw [code, pos_val, rows_val]; rfl
theorem rest_of (r : Fin 8192 → Row) (b : Book) : rest (F := Ideal) (cV r) (cV b) = cV fun p => R (r p) b := by
  rw [rest, code_val, step_val, rest_val]; rfl
/-- A level's loss: its squared distances to the codes, scaled. -/
theorem loss_of (r : Fin 8192 → Row) (b : Book) : loss (F := Ideal) (code (F := Ideal) (cV r) (cV b)) (cV r)
    = fun _ => (((∑ p, Spec.M (r p) b) / 8388608 * (5 / 4) : ℝ) : EReal) := by
  rw [code_val, loss_val]
  simp only [Spec.M, D_eq, Q]
/-- The array the sum starts at holds zero. -/
theorem zero_val : zeroX (F := Ideal) = cV fun _ _ => 0 := by
  funext j
  idx_vars j
  pointwise [zeroX, cV]
  simp

variable (x : Fin 8192 → Row) (c0 c1 c2 : Book)
/-- The reference's sum. -/
theorem out_val : outR (F := Ideal) (cV x) (cV c0) (cV c1) (cV c2) = cV fun p => out (x p) ![c0, c1, c2] := by
  rw [outR, rest_of, rest_of, code_val, code_val, code_val, step_val, step_val, step_val, zero_val, sum_val, sum_val, sum_val]
  simp only [zero_add]
  rfl
/-- The reference's positions. -/
theorem pos_all : posR (F := Ideal) (cV x) (cV c0) (cV c1) (cV c2) = fun j => BitVec.ofNat 32 (Spec.pos (x (j 0)) ![c0, c1, c2] (j 1)).val := by
  rw [posR, rest_of, rest_of, pos_val, pos_val, pos_val, idx_val]
  funext j
  idx_vars j
  fin_cases j1 <;> rfl
/-- The reference's loss. -/
theorem loss_all : lossR (F := Ideal) (cV x) (cV c0) (cV c1) (cV c2) = fun _ => ((Spec.loss x ![c0, c1, c2] : ℝ) : EReal) := by
  rw [lossR, rest_of, rest_of, loss_of, loss_of, loss_of, mean_val]
  funext j
  refine congrArg _ ?_
  simp only [Spec.loss, lossRow, Finset.sum_add_distrib]
  show _ = ((∑ p, Spec.M (x p) c0) + (∑ p, Spec.M (R (x p) c0) c1) + ∑ p, Spec.M (R (R (x p) c0) c1) c2) * (5 / 100663296)
  ring
end Cert.RefRun
end
-- ==== Proof.Finite.lean ====
/- Arguments that hold finite numbers are arrays of reals. -/
module
public import proofs.«01_k».proof.Proof.Spec
public import proofs.«01_k».proof.Proof.Gen.Pre_finite
public import Idealize.ShloMosaic.Lib.ReduceAll
public import Idealize.ShloMosaic.PureOps.Ideal.Laws
@[expose] public section
noncomputable section
namespace Cert.Finite
open Cert.Pre_finite Cert.Pre_finite.Gen Cert.Spec Idealize.ShloMosaic

/-- An extended real whose absolute value is less than the greatest one is a real. -/
theorem real_of_lt (a : EReal) (h : FloatOps.cmpf (F := Ideal) (φ := .f32) .olt (max a (-a)) (Ideal.ofBits .f32 0x7F800000#32) = 1#1) :
    ((a.toReal : ℝ) : EReal) = a := by
  rw [show Ideal.ofBits .f32 0x7F800000#32 = ⊤ by simp [Ideal.ofBits, Ideal.ieee]] at h
  refine EReal.coe_toReal (fun e => ?_) (fun e => ?_) <;> subst e <;> simp [Ideal.cmpf_def, Ideal.cmp] at h

/-- An array of which every element's absolute value is less than the greatest extended real holds reals. -/
theorem reals {m n : ℕ} (x : FVec Ideal ⟨2, ![m, n]⟩ .f32) (hb : S_.BroadcastsInDim ⟨2, ![m, n]⟩ ![]) (h : (⟨2, ![m, n]⟩ : Shape).ReducesTo [0, 1] S_) (j : S_.Idx)
    (e : Host.reduce IntOp.andi (cmpf .olt (Host.absf x) (broadcastInDim ⟨2, ![m, n]⟩ ![] hb (constant (F := Ideal) S_ .f32 0x7F800000#32))) (constantI S_ 1 1#1) h h_S_ j = 1#1) :
    ∃ f, x = cV f := by
  refine ⟨fun p q => (x (ix2 p q)).toReal, funext fun i => ?_⟩
  have : Subsingleton S_.Idx := ⟨fun a b => funext fun k => k.elim0⟩
  have hi := Host.reduce_andi_all _ _ _ _ j e i
  exact (real_of_lt _ hi).symm.trans (congrArg (fun i => (((x i).toReal : ℝ) : EReal)) (eq_ix2 i))

/-- The precondition: all four arguments hold reals. -/
theorem args (x : FVec Ideal S8192x1024 .f32) (a b c : FVec Ideal S1024x1024 .f32) (h : Pre_finite.fn (F := Ideal) x a b c = fun _ => 1#1) :
    ∃ (x' : Fin 8192 → Row) (a' b' c' : Book), x = cV x' ∧ a = cV a' ∧ b = cV b' ∧ c = cV c' := by
  have j : S_.Idx := fun k => k.elim0
  obtain ⟨h, hc⟩ := IntOp.andi_eq_one.1 (congrFun h j)
  obtain ⟨h, hb⟩ := IntOp.andi_eq_one.1 h
  obtain ⟨hx, ha⟩ := IntOp.andi_eq_one.1 h
  obtain ⟨x', hx⟩ := reals x _ _ j hx
  obtain ⟨a', ha⟩ := reals a _ _ j ha
  obtain ⟨b', hb⟩ := reals b _ _ j hb
  obtain ⟨c', hc⟩ := reals c _ _ j hc
  exact ⟨x', a', b', c', hx, ha, hb, hc⟩
end Cert.Finite
end
-- ==== Proof.lean ====
/- The claims of this certificate, each from the module that proves it. -/
module
public import proofs.«01_k».proof.Proof.Gen.Pre_finite
public import proofs.«01_k».proof.Proof.Gen.KernelIdeal.Run
public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.RefFrame
public import proofs.«01_k».proof.Proof.Arrays
public import proofs.«01_k».proof.Proof.RefValue
public import proofs.«01_k».proof.Proof.Finite
public import Idealize.ShloMosaic.Adequacy
public import Idealize.ShloMosaic.Init
@[expose] public section
noncomputable section
namespace Cert.Proof
open Idealize.ShloMosaic Idealize.SL.Sem Cert.Kernel
/-- The idealised kernel differs from the kernel only by the two rules' rewrites. -/
theorem preserves : Cert.preserves_Kernel_KernelIdeal :=
  ⟨IdealRules.bf16_pack.statement _, IdealRules.named_const.statement Cert.KernelIdeal.κ "loss_scale" .f32 0x33555555#32 ((5 / 100663296 : ℝ) : EReal) rfl⟩
/-- On finite arguments the idealised kernel and the reference end with the same sum, loss and positions. -/
theorem algebraic : Cert.algebraic_KernelIdeal_ReferenceIdeal_pre_finite := by
  intro m g m' g' hp hm
  refine ⟨_, _, _, Cert.KernelIdeal.Value.run m g, (θ_run _ _ _).mono (fun r h c => ?_) (Cert.RefRun.run m' g')⟩
  obtain ⟨x, a, b, d, hx, ha, hb, hd⟩ := Cert.Finite.args _ _ _ _ (hp c)
  obtain ⟨ho, hl, hi, hk⟩ := h c
  obtain ⟨ex, ea, eb, ed⟩ := hm c
  rw [ex, ea, eb, ed, hx, ha, hb, hd] at ho hl hi
  refine ⟨ho.trans ?_, hl.trans ?_, hi.trans ?_, hk _ (by simp), hk _ (by simp), hk _ (by simp), hk _ (by simp)⟩
  · exact (Cert.RefRun.out_val x a b d).trans (Cert.Arrays.reg0 m c x a b d hx ha hb hd).symm
  · exact (Cert.RefRun.loss_all x a b d).trans (Cert.Arrays.loss_eq m c x a b d hx ha hb hd).symm
  · exact (Cert.RefRun.pos_all x a b d).trans (Cert.Arrays.pos_eq m c x a b d hx ha hb hd).symm
/-- Everything claimed. -/
theorem claim : Cert.Claim := ⟨Cert.Kernel.Gen.facts, Cert.KernelIdeal.Gen.facts, Cert.ReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  fun m ρ _ => Cert.RefRun.frame m ρ, fun m ρ _ => Cert.RefRun.frame m ρ, preserves, algebraic⟩
end Cert.Proof
end
